-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_KernelIdeal [hPre_small_KernelIdeal : Cert.Pre_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_ReferenceIdeal [hPre_small_ReferenceIdeal : Cert.Pre_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_PlainReferenceIdeal (m : (ℓ : Loc Cert.PlainReferenceIdeal.nD Cert.PlainReferenceIdeal.τ Cert.PlainReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_small_KernelIdeal [hKernelIdeal : Cert.KernelIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_small_ReferenceIdeal [hReferenceIdeal : Cert.ReferenceIdeal.Facts] [hPre_small_ReferenceIdeal : Cert.Pre_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_PlainReferenceIdeal [hPlainReferenceIdeal : Cert.PlainReferenceIdeal.Facts] : Prop :=
  ∀ (m : (ℓ : Loc Cert.PlainReferenceIdeal.nD Cert.PlainReferenceIdeal.τ Cert.PlainReferenceIdeal.sig) → Buf (Elt Ideal) ℓ) (g : Dev Cert.PlainReferenceIdeal.nD → PrngReg), Pre_PlainReferenceIdeal m →
    θ_run (Cert.PlainReferenceIdeal.defs (F := Ideal)) (onTc (τ := Cert.PlainReferenceIdeal.τ) (Cert.PlainReferenceIdeal.main (F := Ideal))) ⟨m, fun _ => 0, g⟩ (fun r => (∀ c : Dev Cert.PlainReferenceIdeal.nD,
      r.2.mem ((c.tc : Thread Cert.PlainReferenceIdeal.nD Cert.PlainReferenceIdeal.τ).loc Cert.PlainReferenceIdeal.main_arg0) = m ((c.tc : Thread Cert.PlainReferenceIdeal.nD Cert.PlainReferenceIdeal.τ).loc Cert.PlainReferenceIdeal.main_arg0)
      ∧ r.2.mem ((c.tc : Thread Cert.PlainReferenceIdeal.nD Cert.PlainReferenceIdeal.τ).loc Cert.PlainReferenceIdeal.main_arg1) = m ((c.tc : Thread Cert.PlainReferenceIdeal.nD Cert.PlainReferenceIdeal.τ).loc Cert.PlainReferenceIdeal.main_arg1)
      ∧ r.2.mem ((c.tc : Thread Cert.PlainReferenceIdeal.nD Cert.PlainReferenceIdeal.τ).loc Cert.PlainReferenceIdeal.main_arg2) = m ((c.tc : Thread Cert.PlainReferenceIdeal.nD Cert.PlainReferenceIdeal.τ).loc Cert.PlainReferenceIdeal.main_arg2))
      ∧ r.2.sem = fun _ => 0)

def preserves_Kernel_KernelIdeal : Prop :=
  True

def algebraic_KernelIdeal_ReferenceIdeal_pre_small_KernelIdeal [hKernelIdeal : Cert.KernelIdeal.Facts] [hReferenceIdeal : Cert.ReferenceIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![512, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def algebraic_KernelIdeal_PlainReferenceIdeal [hKernelIdeal : Cert.KernelIdeal.Facts] [hPlainReferenceIdeal : Cert.PlainReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.PlainReferenceIdeal.nD Cert.PlainReferenceIdeal.τ Cert.PlainReferenceIdeal.sig) → Buf (Elt Ideal) ℓ) (g' : Dev Cert.PlainReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.PlainReferenceIdeal.nD).tc : Thread Cert.PlainReferenceIdeal.nD Cert.PlainReferenceIdeal.τ).loc Cert.PlainReferenceIdeal.main_arg0))
      ∧ m ((c.tc : Thread Cert.KernelIdeal.nD Cert.KernelIdeal.τ).loc Cert.KernelIdeal.main_arg1) = Layout.block ⟨2, ![512, 2048]⟩ ⟨2, ![512, 8192]⟩ 1 4 c (m' (((0 : Dev Cert.PlainReferenceIdeal.nD).tc : Thread Cert.PlainReferenceIdeal.nD Cert.PlainReferenceIdeal.τ).loc Cert.PlainReferenceIdeal.main_arg1))
      ∧ m ((c.tc : Thread Cert.KernelIdeal.nD Cert.KernelIdeal.τ).loc Cert.KernelIdeal.main_arg2) = Layout.block ⟨2, ![2048, 512]⟩ ⟨2, ![8192, 512]⟩ 0 4 c (m' (((0 : Dev Cert.PlainReferenceIdeal.nD).tc : Thread Cert.PlainReferenceIdeal.nD Cert.PlainReferenceIdeal.τ).loc Cert.PlainReferenceIdeal.main_arg2))) →
    ∃ (v0 : Buf (Elt Ideal) (((0 : Dev Cert.PlainReferenceIdeal.nD).tc : Thread Cert.PlainReferenceIdeal.nD Cert.PlainReferenceIdeal.τ).loc Cert.PlainReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.PlainReferenceIdeal.defs (F := Ideal)) (onTc (τ := Cert.PlainReferenceIdeal.τ) (Cert.PlainReferenceIdeal.main (F := Ideal))) ⟨m', fun _ => 0, g'⟩ (fun r =>
          r.2.mem (((0 : Dev Cert.PlainReferenceIdeal.nD).tc : Thread Cert.PlainReferenceIdeal.nD Cert.PlainReferenceIdeal.τ).loc Cert.PlainReferenceIdeal.main_v9) = v0
          ∧ r.2.mem (((0 : Dev Cert.PlainReferenceIdeal.nD).tc : Thread Cert.PlainReferenceIdeal.nD Cert.PlainReferenceIdeal.τ).loc Cert.PlainReferenceIdeal.main_arg0) = m' (((0 : Dev Cert.PlainReferenceIdeal.nD).tc : Thread Cert.PlainReferenceIdeal.nD Cert.PlainReferenceIdeal.τ).loc Cert.PlainReferenceIdeal.main_arg0)
          ∧ r.2.mem (((0 : Dev Cert.PlainReferenceIdeal.nD).tc : Thread Cert.PlainReferenceIdeal.nD Cert.PlainReferenceIdeal.τ).loc Cert.PlainReferenceIdeal.main_arg1) = m' (((0 : Dev Cert.PlainReferenceIdeal.nD).tc : Thread Cert.PlainReferenceIdeal.nD Cert.PlainReferenceIdeal.τ).loc Cert.PlainReferenceIdeal.main_arg1)
          ∧ r.2.mem (((0 : Dev Cert.PlainReferenceIdeal.nD).tc : Thread Cert.PlainReferenceIdeal.nD Cert.PlainReferenceIdeal.τ).loc Cert.PlainReferenceIdeal.main_arg2) = m' (((0 : Dev Cert.PlainReferenceIdeal.nD).tc : Thread Cert.PlainReferenceIdeal.nD Cert.PlainReferenceIdeal.τ).loc Cert.PlainReferenceIdeal.main_arg2))

def Claim : Prop :=
  ∃ (hKernel : Cert.Kernel.Facts) (hKernelIdeal : Cert.KernelIdeal.Facts) (hReferenceIdeal : Cert.ReferenceIdeal.Facts) (hPlainReferenceIdeal : Cert.PlainReferenceIdeal.Facts) (hPre_small_KernelIdeal : Cert.Pre_small_KernelIdeal.Facts) (hPre_small_ReferenceIdeal : Cert.Pre_small_ReferenceIdeal.Facts),
    quiescent_Kernel (hKernel := hKernel)
    ∧ quiescent_KernelIdeal (hKernelIdeal := hKernelIdeal)
    ∧ quiescent_KernelIdeal_pre_small_KernelIdeal (hKernelIdeal := hKernelIdeal) (hPre_small_KernelIdeal := hPre_small_KernelIdeal)
    ∧ quiescent_ReferenceIdeal (hReferenceIdeal := hReferenceIdeal)
    ∧ quiescent_ReferenceIdeal_pre_small_ReferenceIdeal (hReferenceIdeal := hReferenceIdeal) (hPre_small_ReferenceIdeal := hPre_small_ReferenceIdeal)
    ∧ quiescent_PlainReferenceIdeal (hPlainReferenceIdeal := hPlainReferenceIdeal)
    ∧ preserves_Kernel_KernelIdeal
    ∧ algebraic_KernelIdeal_ReferenceIdeal_pre_small_KernelIdeal (hKernelIdeal := hKernelIdeal) (hReferenceIdeal := hReferenceIdeal) (hPre_small_KernelIdeal := hPre_small_KernelIdeal)
    ∧ algebraic_KernelIdeal_PlainReferenceIdeal (hKernelIdeal := hKernelIdeal) (hPlainReferenceIdeal := hPlainReferenceIdeal)
-- ==== Pre_small_KernelIdeal.lean ====
abbrev S512x512 : Shape := ⟨2, ![512, 512]⟩
abbrev S512x2048 : Shape := ⟨2, ![512, 2048]⟩
abbrev S2048x512 : Shape := ⟨2, ![2048, 512]⟩
abbrev S_ : Shape := ⟨0, ![]⟩
abbrev S512 : Shape := ⟨1, ![512]⟩
abbrev S2048 : Shape := ⟨1, ![2048]⟩

class Facts : Prop where
  bitsLt_bf16_f32 : FTy.bits .bf16 < FTy.bits .f32
  reducesTo_S512x512_S512_d1 : S512x512.ReducesTo [1] S512
  h_S_ : 0 < S_.numel
  bcast_S_S512 : S_.BroadcastsInDim S512 (![] : Fin 0 → Fin S512.rank)
  reducesTo_S512x2048_S2048_d0 : S512x2048.ReducesTo [0] S2048
  bcast_S_S2048 : S_.BroadcastsInDim S2048 (![] : Fin 0 → Fin S2048.rank)
  reducesTo_S512_S_d0 : S512.ReducesTo [0] S_
  reducesTo_S2048_S_d0 : S2048.ReducesTo [0] S_

variable [Facts]

def fn {F : FTy → Type} [FloatOps F] (main_arg0 : FVec F S512x512 .bf16) (main_arg1 : FVec F S512x2048 .bf16) (main_arg2 : FVec F S2048x512 .bf16) : IVec S_ 1 :=
  let main_v0 : FVec F S512x512 .f32 := (extf .f32 · bitsLt_bf16_f32) main_arg0
  let main_v1 : FVec F S512x2048 .f32 := (extf .f32 · bitsLt_bf16_f32) main_arg1
  let main_v2 : FVec F S512x512 .f32 := mulf main_v0 main_v0
  let main_cst : FVec F S_ .f32 := constant S_ .f32 0x00000000#32
  let main_v3 : FVec F S512 .f32 := (fun x v => Host.reduceAdd x v reducesTo_S512x512_S512_d1 h_S_) main_v2 main_cst
  let main_cst_0 : FVec F S_ .f32 := constant S_ .f32 0x44E10000#32
  let main_v4 : FVec F S512 .f32 := broadcastInDim S512 ![] bcast_S_S512 main_cst_0
  let main_v5 : IVec S512 1 := cmpf .ole main_v3 main_v4
  let main_v6 : FVec F S512x2048 .f32 := mulf main_v1 main_v1
  let main_cst_1 : FVec F S_ .f32 := constant S_ .f32 0x00000000#32
  let main_v7 : FVec F S2048 .f32 := (fun x v => Host.reduceAdd x v reducesTo_S512x2048_S2048_d0 h_S_) main_v6 main_cst_1
  let main_cst_2 : FVec F S_ .f32 := constant S_ .f32 0x40000000#32
  let main_v8 : FVec F S2048 .f32 := broadcastInDim S2048 ![] bcast_S_S2048 main_cst_2
  let main_v9 : IVec S2048 1 := cmpf .ole main_v7 main_v8
  let main_c : IVec S_ 1 := constantI S_ 1 1#1
  let main_v10 : IVec S_ 1 := (fun x v => Host.reduce IntOp.andi x v reducesTo_S512_S_d0 h_S_) main_v5 main_c
  let main_c_3 : IVec S_ 1 := constantI S_ 1 1#1
  let main_v11 : IVec S_ 1 := (fun x v => Host.reduce IntOp.andi x v reducesTo_S2048_S_d0 h_S_) main_v9 main_c_3
  let main_v12 : IVec S_ 1 := andi main_v10 main_v11
  main_v12
-- ==== Pre_small_ReferenceIdeal.lean ====
abbrev S2048x512 : Shape := ⟨2, ![2048, 512]⟩
abbrev S512x8192 : Shape := ⟨2, ![512, 8192]⟩
abbrev S8192x512 : Shape := ⟨2, ![8192, 512]⟩
abbrev S_ : Shape := ⟨0, ![]⟩
abbrev S2048 : Shape := ⟨1, ![2048]⟩
abbrev S8192 : Shape := ⟨1, ![8192]⟩

class Facts : Prop where
  bitsLt_bf16_f32 : FTy.bits .bf16 < FTy.bits .f32
  reducesTo_S2048x512_S2048_d1 : S2048x512.ReducesTo [1] S2048
  h_S_ : 0 < S_.numel
  bcast_S_S2048 : S_.BroadcastsInDim S2048 (![] : Fin 0 → Fin S2048.rank)
  reducesTo_S512x8192_S8192_d0 : S512x8192.ReducesTo [0] S8192
  bcast_S_S8192 : S_.BroadcastsInDim S8192 (![] : Fin 0 → Fin S8192.rank)
  reducesTo_S2048_S_d0 : S2048.ReducesTo [0] S_
  reducesTo_S8192_S_d0 : S8192.ReducesTo [0] S_

variable [Facts]

def fn {F : FTy → Type} [FloatOps F] (main_arg0 : FVec F S2048x512 .bf16) (main_arg1 : FVec F S512x8192 .bf16) (main_arg2 : FVec F S8192x512 .bf16) : IVec S_ 1 :=
  let main_v0 : FVec F S2048x512 .f32 := (extf .f32 · bitsLt_bf16_f32) main_arg0
  let main_v1 : FVec F S512x8192 .f32 := (extf .f32 · bitsLt_bf16_f32) main_arg1
  let main_v2 : FVec F S2048x512 .f32 := mulf main_v0 main_v0
  let main_cst : FVec F S_ .f32 := constant S_ .f32 0x00000000#32
  let main_v3 : FVec F S2048 .f32 := (fun x v => Host.reduceAdd x v reducesTo_S2048x512_S2048_d1 h_S_) main_v2 main_cst
  let main_cst_0 : FVec F S_ .f32 := constant S_ .f32 0x44E10000#32
  let main_v4 : FVec F S2048 .f32 := broadcastInDim S2048 ![] bcast_S_S2048 main_cst_0
  let main_v5 : IVec S2048 1 := cmpf .ole main_v3 main_v4
  let main_v6 : FVec F S512x8192 .f32 := mulf main_v1 main_v1
  let main_cst_1 : FVec F S_ .f32 := constant S_ .f32 0x00000000#32
  let main_v7 : FVec F S8192 .f32 := (fun x v => Host.reduceAdd x v reducesTo_S512x8192_S8192_d0 h_S_) main_v6 main_cst_1
  let main_cst_2 : FVec F S_ .f32 := constant S_ .f32 0x40000000#32
  let main_v8 : FVec F S8192 .f32 := broadcastInDim S8192 ![] bcast_S_S8192 main_cst_2
  let main_v9 : IVec S8192 1 := cmpf .ole main_v7 main_v8
  let main_c : IVec S_ 1 := constantI S_ 1 1#1
  let main_v10 : IVec S_ 1 := (fun x v => Host.reduce IntOp.andi x v reducesTo_S2048_S_d0 h_S_) main_v5 main_c
  let main_c_3 : IVec S_ 1 := constantI S_ 1 1#1
  let main_v11 : IVec S_ 1 := (fun x v => Host.reduce IntOp.andi x v reducesTo_S8192_S_d0 h_S_) main_v9 main_c_3
  let main_v12 : IVec S_ 1 := andi main_v10 main_v11
  main_v12
-- ==== Kernel.lean ====
abbrev S512x512 : Shape := ⟨2, ![512, 512]⟩
abbrev S512x2048 : Shape := ⟨2, ![512, 2048]⟩
abbrev S2048x512 : Shape := ⟨2, ![2048, 512]⟩
abbrev S2x256x512 : Shape := ⟨3, ![2, 256, 512]⟩
abbrev S3x2x256x512 : Shape := ⟨4, ![3, 2, 256, 512]⟩
abbrev S11 : Shape := ⟨1, ![11]⟩
abbrev S_ : Shape := ⟨0, ![]⟩
abbrev S256x512 : Shape := ⟨2, ![256, 512]⟩
abbrev S1x256x512 : Shape := ⟨3, ![1, 256, 512]⟩
abbrev S1 : Shape := ⟨1, ![1]⟩
abbrev S1x1x256x512 : Shape := ⟨4, ![1, 1, 256, 512]⟩
abbrev S1x2x256x512 : Shape := ⟨4, ![1, 2, 256, 512]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S512x512, .bf16⟩
  | .hbm, ⟨1, _⟩ => ⟨S512x2048, .bf16⟩
  | .hbm, ⟨2, _⟩ => ⟨S2048x512, .bf16⟩
  | .hbm, ⟨3, _⟩ => ⟨S512x512, .f32⟩
  | .local _ .vmem, ⟨0, _⟩ => ⟨S512x512, .bf16⟩
  | .local _ .vmem, ⟨1, _⟩ => ⟨S512x2048, .bf16⟩
  | .local _ .vmem, ⟨2, _⟩ => ⟨S2048x512, .bf16⟩
  | .local _ .vmem, ⟨3, _⟩ => ⟨S512x512, .f32⟩
  | .local _ .vmem, ⟨4, _⟩ => ⟨S2x256x512, .bf16⟩
  | .local _ .vmem, ⟨5, _⟩ => ⟨S3x2x256x512, .bf16⟩
  | .local _ .vmem, ⟨6, _⟩ => ⟨S3x2x256x512, .bf16⟩
  | .local _ .vmem, ⟨7, _⟩ => ⟨S3x2x256x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_26 : BitVec 32 := 1#32
  let v41 : BitVec 32 := Scalar.muli v35 c1_i32_26
  let v42 : BitVec 32 := Scalar.addi c0_i32_27 v41
  v42.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_40 : BitVec 32 := 1#32
  let v53 : BitVec 32 := Scalar.muli v24 c1_i32_40
  let v54 : BitVec 32 := Scalar.addi c0_i32_41 v53
  v54.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_51 : BitVec 32 := 1#32
  let v63 : BitVec 32 := Scalar.muli v24 c1_i32_51
  let v64 : BitVec 32 := Scalar.addi c0_i32_52 v63
  v64.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_60 : BitVec 32 := 1#32
  let v73 : BitVec 32 := Scalar.muli v13 c1_i32_60
  let v74 : BitVec 32 := Scalar.addi c0_i32_61 v73
  v74.toNat
def k0_dev7 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_90 : BitVec 32 := 1#32
  let v100 : BitVec 32 := Scalar.muli v24 c1_i32_90
  let v101 : BitVec 32 := Scalar.addi c0_i32_91 v100
  v101.toNat
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_111 : BitVec 32 := 1#32
  let v121 : BitVec 32 := Scalar.muli v13 c1_i32_111
  let v122 : BitVec 32 := Scalar.addi c0_i32_112 v121
  v122.toNat
def k0_dev9 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_134 : BitVec 32 := 1#32
  let v139 : BitVec 32 := Scalar.muli v24 c1_i32_134
  let v140 : BitVec 32 := Scalar.addi c0_i32_135 v139
  v140.toNat
def k0_dev10 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_155 : BitVec 32 := 1#32
  let v160 : BitVec 32 := Scalar.muli v13 c1_i32_155
  let v161 : BitVec 32 := Scalar.addi c0_i32_156 v160
  v161.toNat
def k0_dev11 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_186 : BitVec 32 := 1#32
  let v189 : BitVec 32 := Scalar.muli v35 c1_i32_186
  let v190 : BitVec 32 := Scalar.addi c0_i32_187 v189
  v190.toNat
def k0_dev12 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_215 : BitVec 32 := 1#32
  let v216 : BitVec 32 := Scalar.muli v24 c1_i32_215
  let v217 : BitVec 32 := Scalar.addi c0_i32_216 v216
  v217.toNat
def k0_dev13 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_247 : BitVec 32 := 1#32
  let v245 : BitVec 32 := Scalar.muli v35 c1_i32_247
  let v246 : BitVec 32 := Scalar.addi c0_i32_248 v245
  v246.toNat
def k0_dev14 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_268 : BitVec 32 := 1#32
  let v266 : BitVec 32 := Scalar.muli v24 c1_i32_268
  let v267 : BitVec 32 := Scalar.addi c0_i32_269 v266
  v267.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x8192 : Shape := ⟨2, ![512, 8192]⟩
abbrev S8192x512 : Shape := ⟨2, ![8192, 512]⟩
abbrev S2048x8192 : Shape := ⟨2, ![2048, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x8192, .bf16⟩
  | .hbm, ⟨2, _⟩ => ⟨S8192x512, .bf16⟩
  | .hbm, ⟨3, _⟩ => ⟨S2048x512, .f32⟩
  | .hbm, ⟨4, _⟩ => ⟨S512x8192, .f32⟩
  | .hbm, ⟨5, _⟩ => ⟨S8192x512, .f32⟩
  | .hbm, ⟨6, _⟩ => ⟨S2048x8192, .f32⟩
  | .hbm, ⟨7, _⟩ => ⟨S_, .i32⟩
  | .hbm, ⟨8, _⟩ => ⟨S_, .i32⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S2048x8192, .f32⟩
  | .hbm, ⟨21, _⟩ => ⟨S2048x512, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== PlainReferenceIdeal.lean ====
abbrev S2048x512 : Shape := ⟨2, ![2048, 512]⟩
abbrev S512x8192 : Shape := ⟨2, ![512, 8192]⟩
abbrev S8192x512 : Shape := ⟨2, ![8192, 512]⟩
abbrev S2048x8192 : Shape := ⟨2, ![2048, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x8192, .bf16⟩
  | .hbm, ⟨2, _⟩ => ⟨S8192x512, .bf16⟩
  | .hbm, ⟨3, _⟩ => ⟨S2048x512, .f32⟩
  | .hbm, ⟨4, _⟩ => ⟨S512x8192, .f32⟩
  | .hbm, ⟨5, _⟩ => ⟨S8192x512, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S2048x8192, .f32⟩
  | .hbm, ⟨13, _⟩ => ⟨S2048x512, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Proto.lean ====
/-
  THE PROTOCOL of the four-device kernel, written down before its body is run: the tiles of the four scratch buffers, what
  each of the eleven remote copies carries, and for each semaphore cell who pays it, how much, and what is handed over.

  Devices sit on a ring of four. Each device copies its own rows of `x` to its three peers (slots 0 and 1 to the right
  neighbour, one half each; slot 2 to the left neighbour, both halves at once; slots 3 and 4 pass on what came from the left
  neighbour, so that it reaches the device opposite to its owner), computes for each half it received the product with its
  own weights, rounds it and copies it back to its owner (slots 5 and 6 to the left neighbour, 7 and 8 to the right one, 9 and
  10 to the device opposite). Before any copy the devices meet on the runtime's barrier semaphore.

    barrier cell of `g`   one round, three units: device `g`'s three peers signal it, each handing `g` the places on ITSELF
                          that `g`'s copies to it land in (contents unknown)
    receive cell of slot `k` on `d`   one round, paid by the copy from `fro k d`: the landing place, with the contents copied
    send cell of slot `k` on `c`      one round, paid by `c`'s own copy: the share of the source it was read from
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.MemrefSat
public import Idealize.ShloMosaic.Lib.ValueLayout
public import Idealize.ShloMosaic.Lib.Ring.FamCut

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's, whose duties are three -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The left neighbour, the right neighbour and the device opposite. -/
def lft (c : Dev nD) : Dev nD := c - (1 : Fin 4)
def rgt (c : Dev nD) : Dev nD := c + (1 : Fin 4)
def opp (c : Dev nD) : Dev nD := c + (2 : Fin 4)

/-- How many devices to the right slot `k`'s copy goes. -/
def hop (k : Fin 11) : Fin 4 := ![1, 1, 3, 1, 1, 3, 3, 1, 1, 2, 2] k
/-- The device slot `k`'s copy from `c` goes to, and the device slot `k`'s copy to `c` comes from. -/
def dest (k : Fin 11) (c : Dev nD) : Dev nD := c + hop k
def fro (k : Fin 11) (c : Dev nD) : Dev nD := c - hop k

theorem dest_fro (k : Fin 11) (c : Dev nD) : dest k (fro k c) = c := sub_add_cancel c (hop k)
theorem fro_dest (k : Fin 11) (c : Dev nD) : fro k (dest k c) = c := add_sub_cancel_right c (hop k)
theorem lft_rgt (c : Dev nD) : lft (rgt c) = c := add_sub_cancel_right c (1 : Fin 4)
theorem rgt_lft (c : Dev nD) : rgt (lft c) = c := sub_add_cancel c (1 : Fin 4)
theorem opp_opp (c : Dev nD) : opp (opp c) = c := by revert c; decide

/-- The kernel's device chains name the three peers in its signals … -/
theorem dev1_eq (c : Dev nD) : (⟨k0_dev1 c, k0_dev1_lt c⟩ : Dev nD) = lft c := by revert c; decide
theorem dev2_eq (c : Dev nD) : (⟨k0_dev2 c, k0_dev2_lt c⟩ : Dev nD) = rgt c := by revert c; decide
theorem dev3_eq (c : Dev nD) : (⟨k0_dev3 c, k0_dev3_lt c⟩ : Dev nD) = opp c := by revert c; decide
/-- … and in its copies, in program order, the slots' targets. -/
theorem dev4_eq (c : Dev nD) : (⟨k0_dev4 c, k0_dev4_lt c⟩ : Dev nD) = dest 0 c := by revert c; decide
theorem dev5_eq (c : Dev nD) : (⟨k0_dev5 c, k0_dev5_lt c⟩ : Dev nD) = dest 1 c := by revert c; decide
theorem dev6_eq (c : Dev nD) : (⟨k0_dev6 c, k0_dev6_lt c⟩ : Dev nD) = dest 2 c := by revert c; decide
theorem dev7_eq (c : Dev nD) : (⟨k0_dev7 c, k0_dev7_lt c⟩ : Dev nD) = dest 3 c := by revert c; decide
theorem dev8_eq (c : Dev nD) : (⟨k0_dev8 c, k0_dev8_lt c⟩ : Dev nD) = dest 5 c := by revert c; decide
theorem dev9_eq (c : Dev nD) : (⟨k0_dev9 c, k0_dev9_lt c⟩ : Dev nD) = dest 4 c := by revert c; decide
theorem dev10_eq (c : Dev nD) : (⟨k0_dev10 c, k0_dev10_lt c⟩ : Dev nD) = dest 6 c := by revert c; decide
theorem dev11_eq (c : Dev nD) : (⟨k0_dev11 c, k0_dev11_lt c⟩ : Dev nD) = dest 9 c := by revert c; decide
theorem dev12_eq (c : Dev nD) : (⟨k0_dev12 c, k0_dev12_lt c⟩ : Dev nD) = dest 7 c := by revert c; decide
theorem dev13_eq (c : Dev nD) : (⟨k0_dev13 c, k0_dev13_lt c⟩ : Dev nD) = dest 10 c := by revert c; decide
theorem dev14_eq (c : Dev nD) : (⟨k0_dev14 c, k0_dev14_lt c⟩ : Dev nD) = dest 8 c := by revert c; decide

/-! ## The memrefs -/

abbrev A0 : Memref sig .tc .vmem S512x512 .bf16 := Memref.whole cc0_stg0_0
abbrev A1 : Memref sig .tc .vmem S512x2048 .bf16 := Memref.whole cc0_stg1_0
abbrev A2 : Memref sig .tc .vmem S2048x512 .bf16 := Memref.whole cc0_stg2_0
abbrev A3 : Memref sig .tc .vmem S512x512 .f32 := Memref.whole cc0_stg3_0
abbrev A4 : Memref sig .tc .vmem S2x256x512 .bf16 := Memref.whole cc0_scratch0
abbrev A5 : Memref sig .tc .vmem S3x2x256x512 .bf16 := Memref.whole cc0_scratch1
abbrev A6 : Memref sig .tc .vmem S3x2x256x512 .bf16 := Memref.whole cc0_scratch2
abbrev A7 : Memref sig .tc .vmem S3x2x256x512 .bf16 := Memref.whole cc0_scratch3

/-- Tile `(a, j)` of a three-by-two stack of half blocks lies in it. -/
theorem inb4 (a : Fin 3) (j : Fin 2) : ∀ i, (![a.val, j.val, 0, 0] : Fin 4 → Nat) i + S1x1x256x512.size i ≤ S3x2x256x512.size i := by
  revert a j; decide
theorem inb3 (j : Fin 2) : ∀ i, (![j.val, 0, 0] : Fin 3 → Nat) i + S1x256x512.size i ≤ S2x256x512.size i := by
  revert j; decide

/-- Tile `(a, j)` of a stack, as a matrix. -/
abbrev tl (M : Memref sig .tc .vmem S3x2x256x512 .bf16) (a : Fin 3) (j : Fin 2) : Memref sig .tc .vmem S256x512 .bf16 :=
  (M.slice (Rect.unit (s := S3x2x256x512) ![a.val, j.val, 0, 0] S1x1x256x512.size (inb4 a j)) (fun _ => rfl)).squeeze S256x512 squeezes_S1x1x256x512_S256x512
/-- Half `j` of the device's own rows. -/
abbrev xm (j : Fin 2) : Memref sig .tc .vmem S256x512 .bf16 :=
  (A4.slice (Rect.unit (s := S2x256x512) ![j.val, 0, 0] S1x256x512.size (inb3 j)) (fun _ => rfl)).squeeze S256x512 squeezes_S1x256x512_S256x512
/-- The landing place of the right neighbour's rows, both halves. -/
abbrev xr : Memref sig .tc .vmem S2x256x512 .bf16 :=
  (A5.slice (Rect.unit (s := S3x2x256x512) ![1, 0, 0, 0] S1x2x256x512.size inb_S3x2x256x512_S1x2x256x512_1_0_0_0) (fun _ => rfl)).squeeze S2x256x512
    squeezes_S1x2x256x512_S2x256x512

/-! ## The contents -/

/-- The devices' argument blocks: rows of `x`, columns of `W1`, rows of `W2`. -/
structure Ins (F : FTy → Type) where
  x : Dev nD → Vec F S512x512 .bf16
  u : Dev nD → Vec F S512x2048 .bf16
  v : Dev nD → Vec F S2048x512 .bf16

variable (I : Ins F)

theorem inbh (j : Fin 2) : ∀ i, (![256 * j.val, 0] : Fin 2 → Nat) i + S256x512.size i ≤ S512x512.size i := by
  revert j; decide
/-- Rows `256 j` to `256 j + 255`. -/
abbrev rh (j : Fin 2) : Rect S512x512 := Rect.unit (s := S512x512) ![256 * j.val, 0] S256x512.size (inbh j)

/-- Half `j` of device `c`'s rows of `x`. -/
def half (c : Dev nD) (j : Fin 2) : Vec F S256x512 .bf16 := fun i => I.x c ((rh j).emb i)
/-- Both halves, stacked. -/
def both (c : Dev nD) : Vec F S2x256x512 .bf16 := fun i => half I c (i 0) (ValueIdx.ix2 (i 1) (i 2))

/-- The hidden layer before its activation, on device `c`'s columns, of a half block of rows. -/
def hid (c : Dev nD) (h : Vec F S256x512 .bf16) : FVec F S256x2048 .f32 :=
  matmul dot_S256x512_S512x2048_S256x2048_1_0_0_1_n_n none h (k0_pay3 (I.u c)) (constant S256x2048 .f32 0x00000000#32)
/-- Device `c`'s part of the result of a half block of rows: its columns of the hidden layer through its rows of `W2`. -/
def mlp (c : Dev nD) (h : Vec F S256x512 .bf16) : FVec F S256x512 .f32 :=
  matmul dot_S256x2048_S2048x512_S256x512_1_0_0_1_n_n none
    (truncf .bf16 (mulf (hid I c h) (logistic (hid I c h))) bitsLt_bf16_f32) (k0_pay4 (I.v c)) (constant S256x512 .f32 0x00000000#32)
/-- The same rounded, as it travels. -/
def part (c : Dev nD) (h : Vec F S256x512 .bf16) : FVec F S256x512 .bf16 := truncf .bf16 (mlp I c h) bitsLt_bf16_f32

/-- Half `j` of device `c`'s result: its own part plus those of its left and right neighbours and of the device opposite. -/
def out (c : Dev nD) (j : Fin 2) : FVec F S256x512 .f32 :=
  addf (addf (addf (mlp I c (half I c j)) (extf .f32 (part I (lft c) (half I (rgt (lft c)) j)) bitsLt_bf16_f32))
    (extf .f32 (part I (rgt c) (half I (lft (rgt c)) j)) bitsLt_bf16_f32)) (extf .f32 (part I (opp c) (half I (lft (lft (opp c))) j)) bitsLt_bf16_f32)

/-! ## What travels -/

/-- Where slot `k`'s copy lands on `d`, contents unknown. -/
def opn (k : Fin 11) (d : Dev nD) : sProp 𝕄 :=
  match k with
  | 0 => iprop(∃ Y, owns (d : Thread nD τ) (tl A5 0 0) fullShare Y)
  | 1 => iprop(∃ Y, owns (d : Thread nD τ) (tl A5 0 1) fullShare Y)
  | 2 => iprop(∃ Y, owns (d : Thread nD τ) xr fullShare Y)
  | 3 => iprop(∃ Y, owns (d : Thread nD τ) (tl A5 2 0) fullShare Y)
  | 4 => iprop(∃ Y, owns (d : Thread nD τ) (tl A5 2 1) fullShare Y)
  | 5 => iprop(∃ Y, owns (d : Thread nD τ) (tl A7 1 0) fullShare Y)
  | 6 => iprop(∃ Y, owns (d : Thread nD τ) (tl A7 1 1) fullShare Y)
  | 7 => iprop(∃ Y, owns (d : Thread nD τ) (tl A7 0 0) fullShare Y)
  | 8 => iprop(∃ Y, owns (d : Thread nD τ) (tl A7 0 1) fullShare Y)
  | 9 => iprop(∃ Y, owns (d : Thread nD τ) (tl A7 2 0) fullShare Y)
  | 10 => iprop(∃ Y, owns (d : Thread nD τ) (tl A7 2 1) fullShare Y)

/-- The same with the contents slot `k`'s copy from `s` brought. -/
def got (k : Fin 11) (s d : Dev nD) : sProp 𝕄 :=
  match k with
  | 0 => owns (d : Thread nD τ) (tl A5 0 0) fullShare (half I s 0)
  | 1 => owns (d : Thread nD τ) (tl A5 0 1) fullShare (half I s 1)
  | 2 => owns (d : Thread nD τ) xr fullShare (both I s)
  | 3 => owns (d : Thread nD τ) (tl A5 2 0) fullShare (half I (lft s) 0)
  | 4 => owns (d : Thread nD τ) (tl A5 2 1) fullShare (half I (lft s) 1)
  | 5 => owns (d : Thread nD τ) (tl A7 1 0) fullShare (part I s (half I (lft s) 0))
  | 6 => owns (d : Thread nD τ) (tl A7 1 1) fullShare (part I s (half I (lft s) 1))
  | 7 => owns (d : Thread nD τ) (tl A7 0 0) fullShare (part I s (half I (rgt s) 0))
  | 8 => owns (d : Thread nD τ) (tl A7 0 1) fullShare (part I s (half I (rgt s) 1))
  | 9 => owns (d : Thread nD τ) (tl A7 2 0) fullShare (part I s (half I (lft (lft s)) 0))
  | 10 => owns (d : Thread nD τ) (tl A7 2 1) fullShare (part I s (half I (lft (lft s)) 1))

/-- The share of the source that slot `k`'s copy from `c` reads, and its contents. -/
def lent (k : Fin 11) (c : Dev nD) : sProp 𝕄 :=
  match k with
  | 0 => owns (c : Thread nD τ) (xm 0) fullShare.left (half I c 0)
  | 1 => owns (c : Thread nD τ) (xm 1) fullShare.left (half I c 1)
  | 2 => owns (c : Thread nD τ) A4 fullShare.right.left (both I c)
  | 3 => owns (c : Thread nD τ) (tl A5 0 0) fullShare.left (half I (lft c) 0)
  | 4 => owns (c : Thread nD τ) (tl A5 0 1) fullShare.left (half I (lft c) 1)
  | 5 => owns (c : Thread nD τ) (tl A6 0 0) fullShare (part I c (half I (lft c) 0))
  | 6 => owns (c : Thread nD τ) (tl A6 0 1) fullShare (part I c (half I (lft c) 1))
  | 7 => owns (c : Thread nD τ) (tl A6 1 0) fullShare (part I c (half I (rgt c) 0))
  | 8 => owns (c : Thread nD τ) (tl A6 1 1) fullShare (part I c (half I (rgt c) 1))
  | 9 => owns (c : Thread nD τ) (tl A6 2 0) fullShare (part I c (half I (lft (lft c)) 0))
  | 10 => owns (c : Thread nD τ) (tl A6 2 1) fullShare (part I c (half I (lft (lft c)) 1))

instance opn_storable (k : Fin 11) (d : Dev nD) : BI.Storable (upEmb : UEmb _ 𝕄) (opn (F := F) k d) := by
  unfold opn; split <;> infer_instance
instance got_storable (k : Fin 11) (s d : Dev nD) : BI.Storable (upEmb : UEmb _ 𝕄) (got I k s d) := by
  unfold got; split <;> infer_instance
instance lent_storable (k : Fin 11) (c : Dev nD) : BI.Storable (upEmb : UEmb _ 𝕄) (lent I k c) := by
  unfold lent; split <;> infer_instance

/-- What device `g`'s peer that pays duty `d` of its barrier cell hands it: the places on the peer where `g`'s copies land.
    Duty 0 is paid by the left neighbour, 1 by the device opposite, 2 by the right neighbour. -/
def barPay (g : Dev nD) (d : Fin 3) : sProp 𝕄 :=
  match d with
  | 0 => iprop(opn 2 (lft g) ∗ opn 5 (lft g) ∗ opn 6 (lft g))
  | 1 => iprop(opn 9 (opp g) ∗ opn 10 (opp g))
  | 2 => iprop(opn 0 (rgt g) ∗ opn 1 (rgt g) ∗ opn 3 (rgt g) ∗ opn 4 (rgt g) ∗ opn 7 (rgt g) ∗ opn 8 (rgt g))

instance barPay_storable (g : Dev nD) (d : Fin 3) : BI.Storable (upEmb : UEmb _ 𝕄) (barPay (F := F) g d) := by
  unfold barPay; split <;> infer_instance

/-! ## The cells -/

/-- The runtime's barrier semaphore, and slot `k`'s send and receive semaphores. -/
abbrev barS : Sem sig := (SemArray.scalar (sig.barrier 0 rfl) : Sems sig S_).sem
def sndS (k : Fin 11) : DmaSem sig := ⟨4 + k.val, by have := k.isLt; show _ < 26; omega⟩
def rcvS (k : Fin 11) : DmaSem sig := ⟨15 + k.val, by have := k.isLt; show _ < 26; omega⟩

/-- A device's cells: its barrier cell, the send cells, the receive cells. -/
abbrev CI : Type := Unit ⊕ (Fin 11 ⊕ Fin 11)
def csem : CI → SemLoc sig
  | .inl _ => .reg barS
  | .inr (.inl k) => .dma (sndS k)
  | .inr (.inr k) => .dma (rcvS k)

/-- Which of them a semaphore is, if any. -/
def cellIx (s : SemLoc sig) : Option CI :=
  match s with
  | .reg s => if s = barS then some (.inl ()) else none
  | .dma q => if h : 4 ≤ q.val ∧ q.val < 15 then some (.inr (.inl ⟨q.val - 4, by omega⟩))
      else if h : 15 ≤ q.val ∧ q.val < 26 then some (.inr (.inr ⟨q.val - 15, by omega⟩)) else none

theorem cellIx_csem (i : CI) : cellIx (csem i) = some i := by revert i; decide

abbrev kcell (ck : Dev nD × CI) : GSem nD τ sig := ((ck.1 : Thread nD τ), csem ck.2)
abbrev barCell (c : Dev nD) : GSem nD τ sig := ((c : Thread nD τ), .reg barS)
abbrev sndCell (k : Fin 11) (c : Dev nD) : GSem nD τ sig := ((c : Thread nD τ), .dma (sndS k))
abbrev rcvCell (k : Fin 11) (c : Dev nD) : GSem nD τ sig := ((c : Thread nD τ), .dma (rcvS k))

theorem ix_bar (c : Dev nD) : cellIx (barCell c).2 = some (.inl ()) := cellIx_csem (.inl ())
theorem ix_snd (k : Fin 11) (c : Dev nD) : cellIx (sndCell k c).2 = some (.inr (.inl k)) := cellIx_csem (.inr (.inl k))
theorem ix_rcv (k : Fin 11) (c : Dev nD) : cellIx (rcvCell k c).2 = some (.inr (.inr k)) := cellIx_csem (.inr (.inr k))

/-- The credit of slot `k`'s copy. -/
def cr (k : Fin 11) : ℕ := if k = 2 then A4.view.dmaCredit else (xm 0).view.dmaCredit
theorem cr_pos (k : Fin 11) : 0 < cr k := by
  unfold cr; split
  · exact View.dmaCredit_pos _ (by decide)
  · exact View.dmaCredit_pos _ (by decide)

/-! ## The schedule -/

/-- One round, round 0, at each cell: at a barrier cell three duties of one unit, at a send or receive cell the one duty of
    its copy's credit. -/
def rd : Rounds.Schedule (GSem nD τ sig) (Fin 3) 𝕄 where
  duties g r := if r = 0 ∧ g.1.2 = .tc then
      (match cellIx g.2 with | some (.inl _) => Finset.univ | some (.inr _) => {0} | none => ∅) else ∅
  unitless _ := False
  amount g _ _ := match cellIx g.2 with | some (.inr (.inl k)) => cr k | some (.inr (.inr k)) => cr k | _ => 1
  payload g _ d := match cellIx g.2 with
    | some (.inl _) => barPay g.1.1 d
    | some (.inr (.inl k)) => lent I k g.1.1
    | some (.inr (.inr k)) => got I k (fro k g.1.1) g.1.1
    | none => iprop(emp)
  amount_pos g _ _ _ := by
    split
    · exact cr_pos _
    · exact cr_pos _
    · exact Nat.one_pos

instance rd_payload_storable (g : GSem nD τ sig) (r : ℕ) (d : Fin 3) : BI.Storable (upEmb : UEmb _ 𝕄) ((rd I).payload g r d) := by
  dsimp only [rd]; split <;> infer_instance

section Sched
variable (k : Fin 11) (c : Dev nD)

theorem duties_bar : (rd I).duties (barCell c) 0 = Finset.univ := by
  dsimp only [rd]; rw [if_pos ⟨rfl, rfl⟩, ix_bar c]
theorem duties_snd : (rd I).duties (sndCell k c) 0 = {0} := by
  dsimp only [rd]; rw [if_pos ⟨rfl, rfl⟩, ix_snd k c]
theorem duties_rcv : (rd I).duties (rcvCell k c) 0 = {0} := by
  dsimp only [rd]; rw [if_pos ⟨rfl, rfl⟩, ix_rcv k c]
theorem duties_later (g : GSem nD τ sig) : ∀ r, 1 ≤ r → (rd I).duties g r = ∅ :=
  fun r hr => by dsimp only [rd]; rw [if_neg fun h => by omega]

theorem amount_bar (d : Fin 3) : (rd I).amount (barCell c) 0 d = 1 := by dsimp only [rd]; rw [ix_bar c]
theorem amount_snd (d : Fin 3) : (rd I).amount (sndCell k c) 0 d = cr k := by dsimp only [rd]; rw [ix_snd k c]
theorem amount_rcv (d : Fin 3) : (rd I).amount (rcvCell k c) 0 d = cr k := by dsimp only [rd]; rw [ix_rcv k c]

theorem payload_bar (d : Fin 3) : (rd I).payload (barCell c) 0 d = barPay c d := by dsimp only [rd]; rw [ix_bar c]
theorem payload_snd (d : Fin 3) : (rd I).payload (sndCell k c) 0 d = lent I k c := by dsimp only [rd]; rw [ix_snd k c]
theorem payload_rcv (d : Fin 3) : (rd I).payload (rcvCell k c) 0 d = got I k (fro k c) c := by dsimp only [rd]; rw [ix_rcv k c]

theorem expect_bar : (rd I).expect (barCell c) 0 = 3 := by
  unfold Schedule.expect Schedule.amountOf
  rw [duties_bar, Finset.sum_congr rfl fun d _ => amount_bar I c d]; rfl
theorem expect_snd : (rd I).expect (sndCell k c) 0 = cr k := by
  unfold Schedule.expect Schedule.amountOf; rw [duties_snd, Finset.sum_singleton, amount_snd]
theorem expect_rcv : (rd I).expect (rcvCell k c) 0 = cr k := by
  unfold Schedule.expect Schedule.amountOf; rw [duties_rcv, Finset.sum_singleton, amount_rcv]

/-- What the barrier's wait brings: what the three peers handed over. -/
theorem rest_bar : bigSep ((rd I).duties (barCell c) 0 \ ∅) (fun d => (rd I).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]; rfl
theorem rest_snd : bigSep ((rd I).duties (sndCell k c) 0 \ ∅) (fun d => (rd I).payload (sndCell k c) 0 d) = lent I k c := by
  rw [Finset.sdiff_empty, duties_snd, bigSep_singleton, payload_snd]
theorem rest_rcv : bigSep ((rd I).duties (rcvCell k c) 0 \ ∅) (fun d => (rd I).payload (rcvCell k c) 0 d) = got I k (fro k c) c := by
  rw [Finset.sdiff_empty, duties_rcv, bigSep_singleton, payload_rcv]

end Sched

/-! ## What each device owes; the levels -/

/-- The receive credits device `c` still owes when the copies of the slots in the list are yet to be started. -/
def oweX (c : Dev nD) : List (Fin 11) → CellTallies nD τ sig Unit
  | [] => 0
  | k :: l => oweX c l + tallyAt (rcvCell k (dest k c)) () (cr k)

/-- The slots in the order of their copies. -/
def ord : List (Fin 11) := [0, 1, 2, 3, 5, 4, 6, 9, 7, 10, 8]

/-- At launch device `c` owes every slot's credit to its target and one unit to each peer's barrier cell; the left
    neighbour's is signalled first, then the right one's, then the one of the device opposite. -/
def O₀ (c : Dev nD) : CellTallies nD τ sig Unit :=
  oweX c ord + tallyAt (barCell (opp c)) () 1 + tallyAt (barCell (rgt c)) () 1 + tallyAt (barCell (lft c)) () 1

def L (g : GSem nD τ sig) : Finset Unit := if g.1.2 = .tc then {()} else ∅
/-- The level of slot `k`'s receive cell: the first copies, those passed on, the results. -/
def slv (k : Fin 11) : ℕ := if k.val ≤ 2 then 2 else if k.val ≤ 4 then 3 else 4
/-- Barrier cells at 1, receive cells at their slots' levels, everything else at 0. -/
def lv (g : GSem nD τ sig) (_ : Unit) : ℕ :=
  match cellIx g.2 with | some (.inl _) => 1 | some (.inr (.inr k)) => slv k | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [ix_bar c]
theorem lv_rcv (k : Fin 11) (c : Dev nD) : lv (rcvCell k c) () = slv k := by unfold lv; rw [ix_rcv k c]

/-- A cell device `c` owes when the slots in `l` remain is the receive cell of one of them. -/
theorem oweX_pos {c : Dev nD} {l : List (Fin 11)} {g : GSem nD τ sig} {u : Unit} (h : 0 < oweX c l g u) :
    ∃ k ∈ l, g = rcvCell k (dest k c) := by
  induction l with
  | nil => exact absurd h (Nat.lt_irrefl 0)
  | cons k l ih =>
    unfold oweX at h
    rw [Pi.add_apply, Finsupp.add_apply, tallyAt_apply] at h
    by_cases hg : g = rcvCell k (dest k c) ∧ u = ()
    · exact ⟨k, List.mem_cons_self, hg.1⟩
    · rw [if_neg hg, Nat.add_zero] at h
      obtain ⟨k', hk', e⟩ := ih h
      exact ⟨k', List.mem_cons_of_mem _ hk', e⟩

/-- A wait on a cell below the receive cells of the slots that remain is allowed. -/
theorem mayWait_x (c : Dev nD) (sm : SemLoc sig) (l : List (Fin 11)) (h : ∀ k ∈ l, lv ((c : Thread nD τ), sm) () < slv k) :
    (levAts L lv : sProp 𝕄) ⊢ MayWait (c : Thread nD τ) sm () (oweX c l) :=
  MayOwe.of_cut (L := L) (lev := lv) (lv ((c : Thread nD τ), sm) ())
    (fun p hp => by rw [Finset.mem_singleton.mp hp, L_tc]; exact Finset.mem_singleton_self _)
    (fun g u hg => by obtain ⟨k, -, rfl⟩ := oweX_pos hg; rw [L_tc]; exact Finset.mem_singleton_self _)
    (fun p hp => by rw [Finset.mem_singleton.mp hp])
    (fun g u hg => by obtain ⟨k, hk, rfl⟩ := oweX_pos hg; rw [lv_rcv]; exact h k hk)

/-- A cell device `c` owes at launch is a receive cell or a barrier cell. -/
theorem O₀_pos {c : Dev nD} {g : GSem nD τ sig} {u : Unit} (h : 0 < O₀ c g u) :
    (∃ d, g = barCell d) ∨ ∃ k d, g = rcvCell k d := by
  unfold O₀ at h
  rw [Pi.add_apply, Finsupp.add_apply, Pi.add_apply, Finsupp.add_apply, Pi.add_apply, Finsupp.add_apply, tallyAt_apply, tallyAt_apply, tallyAt_apply] at h
  by_cases h1 : 0 < oweX c ord g u
  · obtain ⟨k, -, e⟩ := oweX_pos h1; exact Or.inr ⟨k, _, e⟩
  · refine Or.inl ?_
    by_cases ho : g = barCell (opp c) ∧ u = ()
    · exact ⟨_, ho.1⟩
    by_cases hr : g = barCell (rgt c) ∧ u = ()
    · exact ⟨_, hr.1⟩
    by_cases hl : g = barCell (lft c) ∧ u = ()
    · exact ⟨_, hl.1⟩
    rw [if_neg ho, if_neg hr, if_neg hl] at h
    exact absurd h h1

/-- A wait on a cell at level 0 — a staging cell — is allowed with everything owed. -/
theorem mayWait_0 (c : Dev nD) (sm : SemLoc sig) (h : lv ((c : Thread nD τ), sm) () = 0) :
    (levAts L lv : sProp 𝕄) ⊢ MayWait (c : Thread nD τ) sm () (O₀ c) :=
  MayOwe.of_cut (L := L) (lev := lv) 0
    (fun p hp => by rw [Finset.mem_singleton.mp hp, L_tc]; exact Finset.mem_singleton_self _)
    (fun g u hg => by rcases O₀_pos hg with ⟨d, rfl⟩ | ⟨k, d, rfl⟩ <;> (rw [L_tc]; exact Finset.mem_singleton_self _))
    (fun p hp => by rw [Finset.mem_singleton.mp hp]; exact h.le)
    (fun g u hg => by
      rcases O₀_pos hg with ⟨d, rfl⟩ | ⟨k, d, rfl⟩
      · rw [lv_bar]; exact Nat.one_pos
      · rw [lv_rcv]; unfold slv; split <;> [decide; (split <;> decide)])

/-! ## The records: every cell's invariant, that every cell's round 0 is reached, the levels -/

def records (K : Dev nD × CI → ℕ) : sProp 𝕄 :=
  iprop((bigSep Finset.univ fun ck : Dev nD × CI => cellInv ER (rd I) (K ck) (kcell ck))
    ∗ (bigSep Finset.univ fun ck : Dev nD × CI => reached ER (kcell ck) 0))

instance records_persistent (K : Dev nD × CI → ℕ) : BI.Persistent (records I K) := by unfold records; infer_instance

theorem inv_at (K : Dev nD × CI → ℕ) (ck : Dev nD × CI) : records I K ⊢ cellInv ER (rd I) (K ck) (kcell ck) := by
  unfold records; exact (sep_mono_left (bigSep_elim (Finset.mem_univ ck))).trans sep_elim_left
theorem reached_at (K : Dev nD × CI → ℕ) (ck : Dev nD × CI) : records I K ⊢ reached ER (kcell ck) 0 := by
  unfold records; exact (sep_mono_right (bigSep_elim (Finset.mem_univ ck))).trans sep_elim_right

end Cert.RingMlp

end
-- ==== Proof.Tiles.lean ====
/-
  THE TILES of the scratch buffers: a load and a store through a tile that is owned at known contents, a buffer owned whole
  cut into tiles and put together again, at known contents and at unknown ones.
-/
module

public import proofs.«01_k».proof.Proof.Proto

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

/-- The kernel has no callees: the contexts of its calls and of its waits are empty. -/
abbrev 𝒱₀ : Variants := Variants.none

section General

variable {s s' : Shape} {e : EltTy} (c : Dev nD) (q : PosShare TreeShare)

/-- Owning a squeezed memref is owning the memref, the contents re-indexed. -/
theorem owns_squeeze (m : Memref sig .tc .vmem s e) (h : s.Squeezes s') (X : s.Idx → Elt F e) :
    (owns (c : Thread nD τ) m q X : sProp 𝕄) ⊢ owns (c : Thread nD τ) (m.squeeze s' h) q (fun i => X (Shape.reshapeEquiv h.numel_eq i)) := by
  unfold owns
  iintro ⟨%f, %hf, H⟩
  iexists f
  isplitr
  · ipureintro; subst hf; rfl
  · simp only [View.set_reshape]; iexact H

/-- … and back. -/
theorem owns_unsqueeze (m : Memref sig .tc .vmem s e) (h : s.Squeezes s') (X : s'.Idx → Elt F e) :
    (owns (c : Thread nD τ) (m.squeeze s' h) q X : sProp 𝕄) ⊢ owns (c : Thread nD τ) m q (fun i => X (Shape.reshapeEquiv h.numel_eq.symm i)) := by
  unfold owns
  iintro ⟨%f, %hf, H⟩
  iexists f
  isplitr
  · ipureintro; subst hf
    funext i
    show m.view.read (Elt F) f i = m.view.read (Elt F) f (Shape.reshapeEquiv _ (Shape.reshapeEquiv _ i))
    rw [Shape.reshapeEquiv_reshapeEquiv, Shape.reshapeEquiv_self]
  · simp only [View.set_reshape]; iexact H

/-- Values of the kernel's element types exist. -/
theorem elt_nonempty (e : EltTy) : Nonempty (Elt F e) := inferInstance

variable {T : Type} [Fintype T] [DecidableEq T] (M : Memref sig .tc .vmem s e) (r : T → Rect s) (hr : ∀ t a, (r t).stride a = 1)

/-- The elements of a slice, in the memref's buffer. -/
theorem mem_slice_set (t : Rect s) (ht : ∀ a, t.stride a = 1) (x : M.view.ty.Idx) :
    x ∈ (M.slice t ht).view.set ↔ ∃ y, M.view.emb (t.emb y) = x := by
  constructor
  · intro h
    obtain ⟨y, -, hy⟩ := Finset.mem_map.mp h
    exact ⟨y, hy⟩
  · rintro ⟨y, rfl⟩
    exact Finset.mem_map_of_mem _ (Finset.mem_univ y)

theorem slices_disjoint (hd : ∀ t t', t ≠ t' → Disjoint (r t).set (r t').set) (t t' : T) (h : t ≠ t') :
    Disjoint (M.slice (r t) (hr t)).view.set (M.slice (r t') (hr t')).view.set := by
  show Disjoint (M.view.slice (r t)).set (M.view.slice (r t')).set
  rw [View.set_slice, View.set_slice]
  exact Finset.disjoint_map _ |>.mpr (hd t t' h)

theorem slices_cover (hu : ∀ i, ∃ t, i ∈ (r t).set) :
    Finset.univ.biUnion (fun t => (M.slice (r t) (hr t)).view.set) = M.view.set := by
  ext x
  constructor
  · intro h
    obtain ⟨t, -, h⟩ := Finset.mem_biUnion.mp h
    exact View.set_slice_subset _ _ h
  · intro h
    obtain ⟨i, -, rfl⟩ := Finset.mem_map.mp h
    obtain ⟨t, ht⟩ := hu i
    rw [← Rect.map_emb_univ] at ht
    obtain ⟨y, -, rfl⟩ := Finset.mem_map.mp ht
    exact Finset.mem_biUnion.mpr ⟨t, Finset.mem_univ t, (mem_slice_set M _ (hr t) _).mpr ⟨y, rfl⟩⟩

/-- A memref cut into slices that cover it, at the contents each reads. -/
theorem owns_cut (hd : ∀ t t', t ≠ t' → Disjoint (r t).set (r t').set) (hu : ∀ i, ∃ t, i ∈ (r t).set) (X : s.Idx → Elt F e) :
    (owns (c : Thread nD τ) M q X : sProp 𝕄)
      ⊢ bigSep Finset.univ fun t => owns (c : Thread nD τ) (M.slice (r t) (hr t)) q (fun i => X ((r t).emb i)) := by
  have h (f) : (M.view.loc (c : Thread nD τ) ↦[M.view.set]{q} f : sProp 𝕄)
      ⊢ bigSep Finset.univ fun t => owns (c : Thread nD τ) (M.slice (r t) (hr t)) q (fun i => M.view.read (Elt F) f ((r t).emb i)) := by
    rw [← slices_cover M r hr hu, pointsTo_biUnion Finset.univ _ (fun t _ t' _ h => slices_disjoint M r hr hd t t' h)]
    exact bigSep_mono fun t _ => owns_intro (c : Thread nD τ) (M.slice (r t) (hr t)) q f
  conv_lhs => unfold owns
  iintro ⟨%f, %hf, H⟩
  subst hf
  iapply (h f)
  iexact H

/-- Slices that cover a memref, each at contents of its own, are the memref at contents whose slices those are. -/
theorem owns_paste (hd : ∀ t t', t ≠ t' → Disjoint (r t).set (r t').set) (hu : ∀ i, ∃ t, i ∈ (r t).set)
    (Y : (t : T) → (r t).shape.Idx → Elt F e) :
    (bigSep Finset.univ fun t => owns (c : Thread nD τ) (M.slice (r t) (hr t)) q (Y t) : sProp 𝕄)
      ⊢ iprop(∃ X, ⌜∀ t i, X ((r t).emb i) = Y t i⌝ ∗ owns (c : Thread nD τ) M q X) := by
  have hne : Nonempty (M.view.ty.Contents (Elt F)) := ⟨fun _ => Classical.choice (elt_nonempty _)⟩
  unfold owns
  iintro H
  ihave H := (bigSep_exists_pi Finset.univ (fun t (f : M.view.ty.Contents (Elt F)) =>
    (iprop(⌜(M.slice (r t) (hr t)).view.read (Elt F) f = Y t⌝ ∗ (M.view.loc (c : Thread nD τ) ↦[(M.slice (r t) (hr t)).view.set]{q} f)) : sProp 𝕄))) $$ H
  icases H with ⟨%fs, H⟩
  ihave H := (bigSep_pure_sep Finset.univ _ _) $$ H
  icases H with ⟨%hfs, H⟩
  ihave H := (pointsTo_biUnion_join (ℓ := M.view.loc (c : Thread nD τ)) (q := q) Finset.univ (fun t => (M.slice (r t) (hr t)).view.set) fs
    (Classical.choice hne) (fun t _ t' _ h => slices_disjoint M r hr hd t t' h)) $$ H
  icases H with ⟨%g, %hg, H⟩
  rw [slices_cover M r hr hu]
  iexists (M.view.read (Elt F) g)
  isplitr
  · ipureintro
    intro t i
    rw [← hfs t (Finset.mem_univ t)]
    show (M.slice (r t) (hr t)).view.read (Elt F) g i = _
    rw [View.read_congr (hg t (Finset.mem_univ t))]
  · iexists g; isplitr
    · ipureintro; rfl
    · iexact H

/-- … at known contents of the memref. -/
theorem owns_uncut (hd : ∀ t t', t ≠ t' → Disjoint (r t).set (r t').set) (hu : ∀ i, ∃ t, i ∈ (r t).set) (X : s.Idx → Elt F e) :
    (bigSep Finset.univ fun t => owns (c : Thread nD τ) (M.slice (r t) (hr t)) q (fun i => X ((r t).emb i)) : sProp 𝕄)
      ⊢ owns (c : Thread nD τ) M q X := by
  refine (owns_paste c q M r hr hd hu _).trans ?_
  iintro ⟨%X', %h, H⟩
  have : X' = X := funext fun i => by
    obtain ⟨t, ht⟩ := hu i
    rw [← Rect.map_emb_univ] at ht
    obtain ⟨y, -, rfl⟩ := Finset.mem_map.mp ht
    exact h t y
  subst this
  iexact H

/-- … at unknown contents. -/
theorem owns_uncut_any (hd : ∀ t t', t ≠ t' → Disjoint (r t).set (r t').set) (hu : ∀ i, ∃ t, i ∈ (r t).set) :
    (bigSep Finset.univ fun t => iprop(∃ Y, owns (c : Thread nD τ) (M.slice (r t) (hr t)) q Y) : sProp 𝕄)
      ⊢ iprop(∃ X, owns (c : Thread nD τ) M q X) := by
  have hne (t : T) : Nonempty ((r t).shape.Idx → Elt F e) := ⟨fun _ => Classical.choice (elt_nonempty _)⟩
  iintro H
  ihave H := (bigSep_exists_pi Finset.univ (fun t Y => (owns (c : Thread nD τ) (M.slice (r t) (hr t)) q Y : sProp 𝕄))) $$ H
  icases H with ⟨%Ys, H⟩
  ihave H := (owns_paste c q M r hr hd hu Ys) $$ H
  icases H with ⟨%X, -, H⟩
  iexists X; iexact H

/-! ## Loads and stores through a slice and through a squeezed one -/

variable {α : Type} (t : Rect s) (ht : ∀ a, t.stride a = 1) (hs : t.shape.Squeezes s')

/-- A load of part of a memref owned at known contents. -/
theorem wp_load_part {Q : α → sProp 𝕄} {hl : M.view.LoadsAt t.toLoadRect} {k : (t.shape.Idx → Elt F e) → Prog (TpuEff nD τ sig (Elt F) Λ₀ .tc) α} (X : s.Idx → Elt F e) :
    (owns (c : Thread nD τ) M q X : sProp 𝕄)
      ⊢ iprop((owns (c : Thread nD τ) M q X -∗ wp frame (wpE (defs₀ (F := F)) 𝒱₀ (c : Thread nD τ) none) Set.univ (k fun i => X (t.emb i)) Q)
        -∗ wp frame (wpE (defs₀ (F := F)) 𝒱₀ (c : Thread nD τ) none) Set.univ (.op (.load M t.toLoadRect hl) k) Q) := by
  conv_lhs => unfold owns
  iintro ⟨%f, %hf, H⟩ Hk
  subst hf
  iapply (wp_load_rect 𝒱₀ (c : Thread nD τ) none Set.univ (m := M) (r := t) (View.set_slice_subset _ _)) $$ H
  iintro H
  iapply Hk
  iapply (owns_intro (c : Thread nD τ) M q f); iexact H

/-- A load of a squeezed slice owned at known contents brings them, with the axes of size one. -/
theorem wp_load_tile {Q : α → sProp 𝕄} {hl : M.view.LoadsAt t.toLoadRect} {k : (t.shape.Idx → Elt F e) → Prog (TpuEff nD τ sig (Elt F) Λ₀ .tc) α}
    (X : s'.Idx → Elt F e) :
    (owns (c : Thread nD τ) ((M.slice t ht).squeeze s' hs) q X : sProp 𝕄)
      ⊢ iprop((owns (c : Thread nD τ) ((M.slice t ht).squeeze s' hs) q X
          -∗ wp frame (wpE (defs₀ (F := F)) 𝒱₀ (c : Thread nD τ) none) Set.univ (k fun i => X (Shape.reshapeEquiv hs.numel_eq.symm i)) Q)
        -∗ wp frame (wpE (defs₀ (F := F)) 𝒱₀ (c : Thread nD τ) none) Set.univ (.op (.load M t.toLoadRect hl) k) Q) := by
  conv_lhs => unfold owns
  iintro ⟨%f, %hf, H⟩ Hk
  iapply (wp_load_rect 𝒱₀ (c : Thread nD τ) none Set.univ (m := M) (r := t) (by rw [View.set_reshape])) $$ H
  iintro H
  have e : (fun i => X (Shape.reshapeEquiv hs.numel_eq.symm i)) = (M.access t).read (Elt F) f := by
    subst hf
    funext i
    show (M.view.slice t).read (Elt F) f (Shape.reshapeEquiv _ (Shape.reshapeEquiv _ i)) = _
    rw [Shape.reshapeEquiv_reshapeEquiv, Shape.reshapeEquiv_self]
  rw [e]
  iapply Hk
  unfold owns
  iexists f
  isplitr
  · ipureintro; exact hf
  · iexact H

/-- A store into a slice owned whole leaves what is stored. -/
theorem wp_store_part {Q : α → sProp 𝕄} {hx : (M.access t).Stores Finset.univ} {hm : (Finset.univ : Finset t.shape.Idx) = Finset.univ ∨ ∀ a, t.stride a = 1}
    {k : PUnit → Prog (TpuEff nD τ sig (Elt F) Λ₀ .tc) α} (X w : t.shape.Idx → Elt F e) :
    (owns (c : Thread nD τ) (M.slice t ht) fullShare X : sProp 𝕄)
      ⊢ iprop((owns (c : Thread nD τ) (M.slice t ht) fullShare w
          -∗ wp frame (wpE (defs₀ (F := F)) 𝒱₀ (c : Thread nD τ) none) Set.univ (k ⟨⟩) Q)
        -∗ wp frame (wpE (defs₀ (F := F)) 𝒱₀ (c : Thread nD τ) none) Set.univ (.op (.store M t w Finset.univ hx hm) k) Q) := by
  conv_lhs => unfold owns
  iintro ⟨%f, %hf, H⟩ Hk
  iapply (wp_store 𝒱₀ (c : Thread nD τ) none Set.univ (m := M) (r := t) (Mk := Finset.univ) (S := (M.slice t ht).view.set) (Finset.Subset.refl _)) $$ H
  iintro H
  iapply Hk
  unfold owns
  iexists ((M.access t).write (Elt F) f w Finset.univ)
  isplitr
  · ipureintro; exact View.read_write_univ _ _
  · iexact H

/-- A store into a squeezed slice owned whole leaves what is stored, without the axes of size one. -/
theorem wp_store_tile {Q : α → sProp 𝕄} {hx : (M.access t).Stores Finset.univ} {hm : (Finset.univ : Finset t.shape.Idx) = Finset.univ ∨ ∀ a, t.stride a = 1}
    {k : PUnit → Prog (TpuEff nD τ sig (Elt F) Λ₀ .tc) α} (X : s'.Idx → Elt F e) (w : t.shape.Idx → Elt F e) :
    (owns (c : Thread nD τ) ((M.slice t ht).squeeze s' hs) fullShare X : sProp 𝕄)
      ⊢ iprop((owns (c : Thread nD τ) ((M.slice t ht).squeeze s' hs) fullShare (fun i => w (Shape.reshapeEquiv hs.numel_eq i))
          -∗ wp frame (wpE (defs₀ (F := F)) 𝒱₀ (c : Thread nD τ) none) Set.univ (k ⟨⟩) Q)
        -∗ wp frame (wpE (defs₀ (F := F)) 𝒱₀ (c : Thread nD τ) none) Set.univ (.op (.store M t w Finset.univ hx hm) k) Q) := by
  iintro H Hk
  ihave H := (owns_unsqueeze c fullShare (M.slice t ht) hs X) $$ H
  iapply (wp_store_part c M t ht _ w) $$ H
  iintro H
  iapply Hk
  iapply (owns_squeeze c fullShare (M.slice t ht) hs w); iexact H

end General

section Within

variable {s s' : Shape} {e : EltTy} (c : Dev nD) (q : PosShare TreeShare) (M : Memref sig .tc .vmem s e) {α : Type}

/-- A load of part of a squeezed slice that is owned at known contents: `φ` says where in the slice the part lies. -/
theorem wp_load_within {Q : α → sProp 𝕄} (R t : Rect s) (hR : ∀ a, R.stride a = 1) (hs : R.shape.Squeezes s') (φ : t.shape.Idx → R.shape.Idx)
    (hφ : ∀ i, t.emb i = R.emb (φ i)) {hl : M.view.LoadsAt t.toLoadRect}
    {k : (t.shape.Idx → Elt F e) → Prog (TpuEff nD τ sig (Elt F) Λ₀ .tc) α} (X : s'.Idx → Elt F e) :
    (owns (c : Thread nD τ) ((M.slice R hR).squeeze s' hs) q X : sProp 𝕄)
      ⊢ iprop((owns (c : Thread nD τ) ((M.slice R hR).squeeze s' hs) q X
          -∗ wp frame (wpE (defs₀ (F := F)) 𝒱₀ (c : Thread nD τ) none) Set.univ (k fun i => X (Shape.reshapeEquiv hs.numel_eq.symm (φ i))) Q)
        -∗ wp frame (wpE (defs₀ (F := F)) 𝒱₀ (c : Thread nD τ) none) Set.univ (.op (.load M t.toLoadRect hl) k) Q) := by
  have hsub : (M.access t).set ⊆ ((M.slice R hR).squeeze s' hs).view.set := by
    rw [View.set_reshape]
    intro x hx
    obtain ⟨y, -, rfl⟩ := Finset.mem_map.mp hx
    exact (mem_slice_set M R hR _).mpr ⟨φ y, congrArg M.view.emb (hφ y).symm⟩
  conv_lhs => unfold owns
  iintro ⟨%f, %hf, H⟩ Hk
  iapply (wp_load_rect 𝒱₀ (c : Thread nD τ) none Set.univ (m := M) (r := t) hsub) $$ H
  iintro H
  have e : (fun i => X (Shape.reshapeEquiv hs.numel_eq.symm (φ i))) = (M.access t).read (Elt F) f := by
    subst hf
    funext i
    show M.view.read (Elt F) f (R.emb (Shape.reshapeEquiv _ (Shape.reshapeEquiv _ (φ i)))) = M.view.read (Elt F) f (t.emb i)
    rw [Shape.reshapeEquiv_reshapeEquiv, Shape.reshapeEquiv_self, hφ]
  rw [e]
  iapply Hk
  unfold owns
  iexists f
  isplitr
  · ipureintro; exact hf
  · iexact H

end Within

/-! ## The rectangles of this kernel's tiles -/

/-- Tile `(a, j)` of a stack of six; half `j` of a stack of two; the places device rows land in, `(1, 0)` and `(1, 1)` as one. -/
abbrev r4 (p : Fin 3 × Fin 2) : Rect S3x2x256x512 := Rect.unit (s := S3x2x256x512) ![p.1.val, p.2.val, 0, 0] S1x1x256x512.size (inb4 p.1 p.2)
abbrev r3 (j : Fin 2) : Rect S2x256x512 := Rect.unit (s := S2x256x512) ![j.val, 0, 0] S1x256x512.size (inb3 j)
abbrev r12 : Rect S3x2x256x512 :=
  Rect.unit (s := S3x2x256x512) ![1, 0, 0, 0] S1x2x256x512.size inb_S3x2x256x512_S1x2x256x512_1_0_0_0
/-- The five places in a device's stack of received rows. -/
abbrev r5 : Fin 5 → Rect S3x2x256x512
  | 0 => r4 (0, 0)
  | 1 => r4 (0, 1)
  | 2 => r12
  | 3 => r4 (2, 0)
  | 4 => r4 (2, 1)

theorem r4_disjoint (p p' : Fin 3 × Fin 2) (h : p ≠ p') : Disjoint (r4 p).set (r4 p').set := by
  rw [Finset.disjoint_left]
  intro i hi hi'
  rw [Rect.mem_set_unit] at hi hi'
  have h0 := hi 0; have h1 := hi 1; have h0' := hi' 0; have h1' := hi' 1
  simp at h0 h1 h0' h1'
  exact h (Prod.ext (Fin.ext (by omega)) (Fin.ext (by omega)))

theorem r4_cover (i : S3x2x256x512.Idx) : ∃ p, i ∈ (r4 p).set := by
  refine ⟨(i 0, i 1), Rect.mem_set_unit.mpr fun a => ?_⟩
  have h2 : (i 2).val < 256 := (i 2).isLt
  have h3 : (i 3).val < 512 := (i 3).isLt
  fin_cases a <;> simp <;> omega

theorem r3_disjoint (p p' : Fin 2) (h : p ≠ p') : Disjoint (r3 p).set (r3 p').set := by
  rw [Finset.disjoint_left]
  intro i hi hi'
  rw [Rect.mem_set_unit] at hi hi'
  have h0 := hi 0; have h0' := hi' 0
  simp at h0 h0'
  exact h (Fin.ext (by omega))

theorem r3_cover (i : S2x256x512.Idx) : ∃ p, i ∈ (r3 p).set := by
  refine ⟨i 0, Rect.mem_set_unit.mpr fun a => ?_⟩
  have h2 : (i 1).val < 256 := (i 1).isLt
  have h3 : (i 2).val < 512 := (i 2).isLt
  fin_cases a <;> simp <;> omega

theorem rh_disjoint (p p' : Fin 2) (h : p ≠ p') : Disjoint (rh p).set (rh p').set := by
  rw [Finset.disjoint_left]
  intro i hi hi'
  rw [Rect.mem_set_unit] at hi hi'
  have h0 := hi 0; have h0' := hi' 0
  simp at h0 h0'
  exact h (Fin.ext (by omega))

theorem rh_cover (i : S512x512.Idx) : ∃ p, i ∈ (rh p).set := by
  have h2 : (i 0).val < 512 := (i 0).isLt
  have h3 : (i 1).val < 512 := (i 1).isLt
  refine ⟨⟨(i 0).val / 256, by omega⟩, Rect.mem_set_unit.mpr fun a => ?_⟩
  fin_cases a <;> simp <;> omega

theorem r5_disjoint (p p' : Fin 5) (h : p ≠ p') : Disjoint (r5 p).set (r5 p').set := by
  rw [Finset.disjoint_left]
  intro i hi hi'
  fin_cases p <;> fin_cases p' <;> first
    | exact absurd rfl h
    | (have h0 := Rect.mem_set_unit.mp hi 0
       have h1 := Rect.mem_set_unit.mp hi 1
       have h0' := Rect.mem_set_unit.mp hi' 0
       have h1' := Rect.mem_set_unit.mp hi' 1
       simp at h0 h1 h0' h1'
       omega)

theorem r5_stride (p : Fin 5) : ∀ a, (r5 p).stride a = 1 := by
  fin_cases p <;> exact fun _ => rfl

theorem r5_cover (i : S3x2x256x512.Idx) : ∃ p, i ∈ (r5 p).set := by
  have h0 : (i 0).val < 3 := (i 0).isLt
  have h1 : (i 1).val < 2 := (i 1).isLt
  have h2 : (i 2).val < 256 := (i 2).isLt
  have h3 : (i 3).val < 512 := (i 3).isLt
  rcases (by omega : (i 0).val = 1 ∨ ((i 0).val = 0 ∧ (i 1).val = 0) ∨ ((i 0).val = 0 ∧ (i 1).val = 1)
      ∨ ((i 0).val = 2 ∧ (i 1).val = 0) ∨ ((i 0).val = 2 ∧ (i 1).val = 1)) with h | h | h | h | h
  · exact ⟨2, Rect.mem_set_unit.mpr fun x => by fin_cases x <;> simp <;> omega⟩
  · exact ⟨0, Rect.mem_set_unit.mpr fun x => by fin_cases x <;> simp <;> omega⟩
  · exact ⟨1, Rect.mem_set_unit.mpr fun x => by fin_cases x <;> simp <;> omega⟩
  · exact ⟨3, Rect.mem_set_unit.mpr fun x => by fin_cases x <;> simp <;> omega⟩
  · exact ⟨4, Rect.mem_set_unit.mpr fun x => by fin_cases x <;> simp <;> omega⟩

/-! ## The buffers opened into their tiles and closed again -/

section Buffers

variable (c : Dev nD) (q : PosShare TreeShare)

/-- The separating product over the tiles of each cut, spelt out. -/
theorem cells6 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) := by
  rw [bigSep_univ_eq_bigSepL [(0, 0), (0, 1), (1, 0), (1, 1), (2, 0), (2, 1)] (by decide) (by decide), bigSepL_cons_cons,
    bigSepL_cons_cons, bigSepL_cons_cons, bigSepL_cons_cons, bigSepL_cons_cons, bigSepL_singleton]; rfl
theorem cells5 (Φ : Fin 5 → sProp 𝕄) :
    bigSep Finset.univ Φ = iprop(Φ 0 ∗ Φ 1 ∗ Φ 2 ∗ Φ 3 ∗ Φ 4) := by
  rw [bigSep_univ_eq_bigSepL [0, 1, 2, 3, 4] (by decide) (by decide), bigSepL_cons_cons, bigSepL_cons_cons, bigSepL_cons_cons,
    bigSepL_cons_cons, bigSepL_singleton]; rfl
theorem cells2 (Φ : Fin 2 → sProp 𝕄) : bigSep Finset.univ Φ = iprop(Φ 0 ∗ Φ 1) := by
  rw [bigSep_univ_eq_bigSepL [0, 1] (by decide) (by decide), bigSepL_cons_cons, bigSepL_singleton]; rfl

/-- Some contents of a squeezed memref are some contents of the memref, and the other way round. -/
theorem any_squeeze {s s' : Shape} {e : EltTy} (m : Memref sig .tc .vmem s e) (h : s.Squeezes s') :
    (iprop(∃ X, owns (c : Thread nD τ) m q X) : sProp 𝕄) ⊢ iprop(∃ Y, owns (c : Thread nD τ) (m.squeeze s' h) q Y) := by
  iintro ⟨%X, H⟩; iexists _; iapply (owns_squeeze c q m h X); iexact H
theorem any_unsqueeze {s s' : Shape} {e : EltTy} (m : Memref sig .tc .vmem s e) (h : s.Squeezes s') :
    (iprop(∃ Y, owns (c : Thread nD τ) (m.squeeze s' h) q Y) : sProp 𝕄) ⊢ iprop(∃ X, owns (c : Thread nD τ) m q X) := by
  iintro ⟨%X, H⟩; iexists _; iapply (owns_unsqueeze c q m h X); iexact H

/-- A memref cut, at unknown contents. -/
theorem any_cut {s : Shape} {e : EltTy} {T : Type} [Fintype T] [DecidableEq T] (M : Memref sig .tc .vmem s e) (r : T → Rect s)
    (hr : ∀ t a, (r t).stride a = 1) (hd : ∀ t t', t ≠ t' → Disjoint (r t).set (r t').set) (hu : ∀ i, ∃ t, i ∈ (r t).set) :
    (iprop(∃ X, owns (c : Thread nD τ) M q X) : sProp 𝕄)
      ⊢ bigSep Finset.univ fun t => iprop(∃ Y, owns (c : Thread nD τ) (M.slice (r t) (hr t)) q Y) := by
  have h (X : s.Idx → Elt F e) (t : T) : (owns (c : Thread nD τ) (M.slice (r t) (hr t)) q (fun i => X ((r t).emb i)) : sProp 𝕄)
      ⊢ iprop(∃ Y, owns (c : Thread nD τ) (M.slice (r t) (hr t)) q Y) := by iintro H; iexists _; iexact H
  have h' (X : s.Idx → Elt F e) : (owns (c : Thread nD τ) M q X : sProp 𝕄) ⊢ bigSep Finset.univ fun t => iprop(∃ Y, owns (c : Thread nD τ) (M.slice (r t) (hr t)) q Y) :=
    (owns_cut c q M r hr hd hu X).trans (bigSep_mono fun t _ => h X t)
  iintro ⟨%X, H⟩
  iapply (h' X); iexact H

/-- Some contents of each of the six tiles of a stack. -/
def tiles6 (M : Memref sig .tc .vmem S3x2x256x512 .bf16) : sProp 𝕄 :=
  bigSep Finset.univ fun p : Fin 3 × Fin 2 => iprop(∃ Y, owns (c : Thread nD τ) (tl M p.1 p.2) fullShare Y)

theorem open6 (M : Memref sig .tc .vmem S3x2x256x512 .bf16) : (iprop(∃ X, owns (c : Thread nD τ) M fullShare X) : sProp 𝕄) ⊢ tiles6 c M :=
  (any_cut c fullShare M r4 (fun _ _ => rfl) r4_disjoint r4_cover).trans (bigSep_mono fun p _ => any_squeeze c fullShare _ _)
theorem close6 (M : Memref sig .tc .vmem S3x2x256x512 .bf16) : (tiles6 c M : sProp 𝕄) ⊢ iprop(∃ X, owns (c : Thread nD τ) M fullShare X) :=
  BI.Entails.trans (bigSep_mono fun p _ => any_unsqueeze c fullShare _ _) (owns_uncut_any c fullShare M r4 (fun _ _ => rfl) r4_disjoint r4_cover)

/-- Some contents of each of the five places for received rows. -/
def tiles5 : sProp 𝕄 :=
  iprop((∃ Y, owns (c : Thread nD τ) (tl A5 0 0) fullShare Y) ∗ (∃ Y, owns (c : Thread nD τ) (tl A5 0 1) fullShare Y)
    ∗ (∃ Y, owns (c : Thread nD τ) xr fullShare Y) ∗ (∃ Y, owns (c : Thread nD τ) (tl A5 2 0) fullShare Y)
    ∗ (∃ Y, owns (c : Thread nD τ) (tl A5 2 1) fullShare Y))

theorem open5 : (iprop(∃ X, owns (c : Thread nD τ) A5 fullShare X) : sProp 𝕄) ⊢ tiles5 c := by
  refine (any_cut c fullShare A5 r5 r5_stride r5_disjoint r5_cover).trans ?_
  rw [cells5]
  unfold tiles5
  exact BI.sep_mono (any_squeeze c fullShare _ _) (BI.sep_mono (any_squeeze c fullShare _ _) (BI.sep_mono (any_squeeze c fullShare _ _)
    (BI.sep_mono (any_squeeze c fullShare _ _) (any_squeeze c fullShare _ _))))
theorem close5 : (tiles5 c : sProp 𝕄) ⊢ iprop(∃ X, owns (c : Thread nD τ) A5 fullShare X) := by
  refine BI.Entails.trans ?_ (owns_uncut_any c fullShare A5 r5 r5_stride r5_disjoint r5_cover)
  rw [cells5]
  unfold tiles5
  exact BI.sep_mono (any_unsqueeze c fullShare _ _) (BI.sep_mono (any_unsqueeze c fullShare _ _) (BI.sep_mono (any_unsqueeze c fullShare _ _)
    (BI.sep_mono (any_unsqueeze c fullShare _ _) (any_unsqueeze c fullShare _ _))))

theorem open2 : (iprop(∃ X, owns (c : Thread nD τ) A4 q X) : sProp 𝕄)
    ⊢ iprop((∃ Y, owns (c : Thread nD τ) (xm 0) q Y) ∗ (∃ Y, owns (c : Thread nD τ) (xm 1) q Y)) := by
  refine (any_cut c q A4 r3 (fun _ _ => rfl) r3_disjoint r3_cover).trans ?_
  rw [cells2]
  exact BI.sep_mono (any_squeeze c q _ _) (any_squeeze c q _ _)

theorem openh : (iprop(∃ X, owns (c : Thread nD τ) A3 q X) : sProp 𝕄)
    ⊢ iprop((∃ Y, owns (c : Thread nD τ) (A3.slice (rh 0) (fun _ => rfl)) q Y) ∗ (∃ Y, owns (c : Thread nD τ) (A3.slice (rh 1) (fun _ => rfl)) q Y)) := by
  refine (any_cut c q A3 rh (fun _ _ => rfl) rh_disjoint rh_cover).trans ?_
  rw [cells2]

/-! ## Known contents -/

variable (I : Ins F)

/-- The coordinates of a squeezed index. -/
theorem squeeze3 (i : S1x256x512.Idx) :
    Shape.reshapeEquiv squeezes_S1x256x512_S256x512.numel_eq.symm i = ix2 (n0 := 256) (n1 := 512) (i 1) (i 2) :=
  Shape.reshapeEquiv_eq_of_rowMajor _ (by
    have h : (i 0).val = 0 := by have := (i 0).isLt; simp at this; exact this
    rw [Shape.rowMajor_val_two, Shape.rowMajor_val_three]
    show (i 1).val * 512 + (i 2).val = ((i 0).val * 256 + (i 1).val) * 512 + (i 2).val
    omega)
theorem squeeze4 (i : S1x1x256x512.Idx) :
    Shape.reshapeEquiv squeezes_S1x1x256x512_S256x512.numel_eq.symm i = ix2 (n0 := 256) (n1 := 512) (i 2) (i 3) :=
  Shape.reshapeEquiv_eq_of_rowMajor _ (by
    have h : (i 0).val = 0 := by have := (i 0).isLt; simp at this; exact this
    have h' : (i 1).val = 0 := by have := (i 1).isLt; simp at this; exact this
    rw [Shape.rowMajor_val_two, Shape.rowMajor_val_four]
    show (i 2).val * 512 + (i 3).val = (((i 0).val * 1 + (i 1).val) * 256 + (i 2).val) * 512 + (i 3).val
    omega)
theorem squeeze4' (i : S1x2x256x512.Idx) :
    Shape.reshapeEquiv squeezes_S1x2x256x512_S2x256x512.numel_eq.symm i = ix3 (n0 := 2) (n1 := 256) (n2 := 512) (i 1) (i 2) (i 3) :=
  Shape.reshapeEquiv_eq_of_rowMajor _ (by
    have h : (i 0).val = 0 := by have := (i 0).isLt; simp at this; exact this
    rw [Shape.rowMajor_val_three, Shape.rowMajor_val_four]
    show ((i 1).val * 256 + (i 2).val) * 512 + (i 3).val = (((i 0).val * 2 + (i 1).val) * 256 + (i 2).val) * 512 + (i 3).val
    omega)

/-- Half `j` of the stacked halves is half `j`. -/
theorem both_tile (j : Fin 2) (i : S1x256x512.Idx) :
    both I c ((r3 j).emb i) = half I c j (Shape.reshapeEquiv squeezes_S1x256x512_S256x512.numel_eq.symm i) := by
  rw [squeeze3]
  unfold both
  have h : (i 0).val = 0 := by have := (i 0).isLt; simp at this; exact this
  have e0 : (r3 j).emb i 0 = j := Fin.ext (by show j.val + 1 * (i 0).val = j.val; omega)
  have e1 : (r3 j).emb i 1 = i 1 := Fin.ext (by show 0 + 1 * (i 1).val = (i 1).val; omega)
  have e2 : (r3 j).emb i 2 = i 2 := Fin.ext (by show 0 + 1 * (i 2).val = (i 2).val; omega)
  rw [e0, e1, e2]

/-- The same read through the place they arrive in. -/
theorem both_xr (j : Fin 2) (i : S1x1x256x512.Idx) :
    both I c (Shape.reshapeEquiv squeezes_S1x2x256x512_S2x256x512.numel_eq.symm (ix4 (0 : Fin 1) j (i 2) (i 3)))
      = half I c j (Shape.reshapeEquiv squeezes_S1x1x256x512_S256x512.numel_eq.symm i) := by
  rw [squeeze4, squeeze4']
  rfl

/-- The two halves of a device's rows, in the buffer they travel from. -/
theorem close2 : (iprop(owns (c : Thread nD τ) (xm 0) q (half I c 0) ∗ owns (c : Thread nD τ) (xm 1) q (half I c 1)) : sProp 𝕄)
    ⊢ owns (c : Thread nD τ) A4 q (both I c) := by
  refine BI.Entails.trans ?_ (owns_uncut c q A4 r3 (fun _ _ => rfl) r3_disjoint r3_cover (both I c))
  rw [cells2]
  have e (j : Fin 2) : (fun i => both I c ((r3 j).emb i)) = fun i => half I c j (Shape.reshapeEquiv squeezes_S1x256x512_S256x512.numel_eq.symm i) :=
    funext (both_tile c I j)
  rw [e 0, e 1]
  exact BI.sep_mono (owns_unsqueeze c q _ _ _) (owns_unsqueeze c q _ _ _)

/-- Device `c`'s whole result block. -/
def res : FVec F S512x512 .f32 := fun i =>
  out I c (if (i 0).val < 256 then 0 else 1) (ix2 (⟨(i 0).val % 256, Nat.mod_lt _ (by decide)⟩ : Fin 256) (i 1))

theorem res_half (j : Fin 2) (i : S256x512.Idx) : res c I ((rh j).emb i) = out I c j i := by
  unfold res
  have hi : (i 0).val < 256 := (i 0).isLt
  have v0 : ((rh j).emb i 0).val = 256 * j.val + (i 0).val := by show 256 * j.val + 1 * (i 0).val = _; omega
  have e1 : (rh j).emb i 1 = i 1 := Fin.ext (by show 0 + 1 * (i 1).val = (i 1).val; omega)
  have ej : (if ((rh j).emb i 0).val < 256 then 0 else 1 : Fin 2) = j := by
    rw [v0]; split <;> (apply Fin.ext; simp; omega)
  rw [ej, e1]
  refine congrArg (out I c j) ?_
  rw [show (⟨((rh j).emb i 0).val % 256, Nat.mod_lt _ (by decide)⟩ : Fin 256) = i 0 from Fin.ext (by show _ % 256 = _; rw [v0]; omega)]
  exact (eq_ix2 i).symm

theorem closeh : (iprop(owns (c : Thread nD τ) (A3.slice (rh 0) (fun _ => rfl)) q (out I c 0) ∗ owns (c : Thread nD τ) (A3.slice (rh 1) (fun _ => rfl)) q (out I c 1)) : sProp 𝕄)
    ⊢ owns (c : Thread nD τ) A3 q (res c I) := by
  refine BI.Entails.trans ?_ (owns_uncut c q A3 rh (fun _ _ => rfl) rh_disjoint rh_cover (res c I))
  rw [cells2]
  have e (j : Fin 2) : (fun i => res c I ((rh j).emb i)) = out I c j := funext (res_half c I j)
  rw [e 0, e 1]
  exact BI.Entails.refl _

end Buffers

end Cert.RingMlp

end
-- ==== Proof.Steps.lean ====
/-
  THE STEPS of the protocol: starting slot `k`'s copy, waiting for slot `k`'s copy to arrive, waiting for the device's own
  copy to be away — each once for every slot; and the meeting of the devices on the barrier semaphore.
-/
module

public import proofs.«01_k».proof.Proof.Tiles

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (I : Ins F) (K : Dev nD × CI → ℕ)

/-! ## What a device holds of the protocol -/

/-- What never changes: the cells' records and the levels. -/
def env : sProp 𝕄 := iprop(records I K ∗ levAts L lv)
instance env_persistent : BI.Persistent (env I K) := by unfold env; infer_instance

/-- The device owes the receive credits of the slots in the list. -/
def owing (c : Dev nD) (l : List (Fin 11)) : sProp 𝕄 := iprop(∃ W, owes (c : Thread nD τ) (oweX c l) W)
/-- Before slot `k`'s copy is started: its two duties, the device's place in its send cell. -/
def fresh (k : Fin 11) (c : Dev nD) : sProp 𝕄 :=
  iprop(dutyTok ER (sndCell k c) 0 0 ∗ dutyTok ER (rcvCell k (dest k c)) 0 0 ∗ atPos ER (sndCell k c) 0 ∅ 0)
/-- While it is on its way: the credit of its send cell. -/
def away (k : Fin 11) (c : Dev nD) : sProp 𝕄 := iprop(cred (tallyAt (sndCell k c) () (cr k)) ∗ atPos ER (sndCell k c) 0 ∅ 0)
/-- Before slot `k`'s copy to the device is waited for. -/
def due (k : Fin 11) (c : Dev nD) : sProp 𝕄 := iprop(cred (tallyAt (rcvCell k c) () (cr k)) ∗ atPos ER (rcvCell k c) 0 ∅ 0)

theorem env_rec : env I K ⊢ records I K := by unfold env; exact sep_elim_left
theorem env_lev : env I K ⊢ (levAts L lv : sProp 𝕄) := by unfold env; exact sep_elim_right
theorem env_inv (ck : Dev nD × CI) : env I K ⊢ cellInv ER (rd I) (K ck) (kcell ck) := (env_rec I K).trans (inv_at I K ck)
theorem env_reached (ck : Dev nD × CI) : env I K ⊢ reached ER (kcell ck) 0 := (env_rec I K).trans (reached_at I K ck)

variable {α : Type}

/-- Slot `k`'s copy started: the source's share is lent, the landing place on the target device filled, the credit owed to
    the target paid. -/
theorem send_step {Q : α → sProp 𝕄} (k : Fin 11) (c n : Dev nD) (l : List (Fin 11)) (hn : n = dest k c) {s : Shape} {q : PosShare TreeShare}
    {src dst : Memref sig .tc .vmem s .bf16} {sn rc : DmaSem sig} (X : s.Idx → Elt F .bf16)
    (hs : sn = sndS k) (hr : rc = rcvS k) (hN : dst.view.dmaCredit = cr k)
    (hl : (owns (c : Thread nD τ) src q X : sProp 𝕄) ⊢ lent I k c)
    (hg : (owns (dest k c : Thread nD τ) dst fullShare X : sProp 𝕄) ⊢ got I k c (dest k c))
    (ho : (opn k (dest k c) : sProp 𝕄) ⊢ iprop(∃ Y, owns (dest k c : Thread nD τ) dst fullShare Y))
    {hsc : (dst : Memref sig (Dev.tc n : Thread nD τ).2.kind .vmem s .bf16).view.ref.isScScratch = false}
    {hsrc : src.view.WordExact} {hdst : dst.view.WordExact}
    {hsem : DmaTarget.Typed .vmem (.dma rc) (.remote (Dev.tc n : Thread nD τ) dst (.dma sn) hsc)}
    {kt : PUnit → Prog (TpuEff nD τ sig (Elt F) Λ₀ .tc) α} :
    (iprop(env I K ∗ owns (c : Thread nD τ) src q X ∗ opn k (dest k c) ∗ owing c (k :: l) ∗ fresh k c) : sProp 𝕄)
      ⊢ iprop(((away k c ∗ owing c l) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc n : Thread nD τ) dst (.dma sn) hsc) (.dma rc) hsrc hdst hsem) kt) Q) := by
  subst hn hs hr
  unfold fresh owing
  iintro ⟨#He, Hsrc, Hopn, ⟨%W, HO⟩, HtS, HtR, Hat⟩ Hk
  ihave Hopn := ho $$ Hopn
  unfold owns
  icases Hsrc with ⟨%fs, %hfs, Hsrc⟩
  icases Hopn with ⟨%Y, %fd, -, Hdst⟩
  iapply (Rounds.wp_send_pointsTo 𝒱₀ ER (rd I) (c : Thread nD τ) none (κ₁ := K (c, .inr (.inl k))) (κ₂ := K (dest k c, .inr (.inr k)))
    (r₁ := 0) (r₂ := 0) (d₁ := 0) (d₂ := 0) (fd := fd)
    (by rw [duties_snd]; exact Finset.mem_singleton_self _) (by rw [duties_rcv]; exact Finset.mem_singleton_self _)
    () () (cr k) (by exact hN) (amount_snd I k c 0) (amount_rcv I k (dest k c) 0) (oweX c l) rfl (W := W)
    (by
      rw [payload_snd]
      refine BI.Entails.trans ?_ hl
      subst hfs
      exact owns_intro (c : Thread nD τ) src q fs)
    (by
      rw [payload_rcv, fro_dest]
      refine BI.Entails.trans ?_ hg
      subst hfs
      refine (owns_intro (dest k c : Thread nD τ) dst fullShare _).trans ?_
      rw [View.read_write_univ])) $$ [Hsrc Hdst HO HtS HtR]
  · isplitr; · iapply (env_inv I K (c, .inr (.inl k))); iexact He
    isplitr; · iapply (env_inv I K (dest k c, .inr (.inr k))); iexact He
    isplitl [Hsrc]; · iexact Hsrc
    isplitl [Hdst]; · iexact Hdst
    isplitl [HO]; · iexact HO
    isplitl [HtS]; · iexact HtS
    isplitr; · iapply (env_reached I K (c, .inr (.inl k))); iexact He
    isplitl [HtR]; · iexact HtR
    iapply (env_reached I K (dest k c, .inr (.inr k))); iexact He
  iintro ⟨Hc, HO⟩
  iapply Hk
  unfold away
  isplitl [Hc Hat]
  · isplitl [Hc] <;> iassumption
  · iexists W; iexact HO

/-- The wait for slot `k`'s copy to the device: what it brought, and the semaphore at zero. -/
theorem recv_step {Q : α → sProp 𝕄} (k : Fin 11) (c : Dev nD) (l : List (Fin 11)) (hlt : ∀ i ∈ l, slv k < slv i) {s s' : Shape} {e' : EltTy}
    {src : Memref sig .tc .vmem s' e'} {dst : Memref sig .tc .vmem s .bf16} {rc : DmaSem sig}
    (hr : rc = rcvS k) (hN : dst.view.dmaCredit = cr k)
    {hsrc : src.view.WordExact} {hdst : dst.view.WordExact}
    {kt : PUnit → Prog (TpuEff nD τ sig (Elt F) Λ₀ .tc) α} :
    (iprop(env I K ∗ owing c l ∗ due k c) : sProp 𝕄)
      ⊢ iprop(((got I k (fro k c) c ∗ semVal (rcvCell k c) 0 ∗ owing c l) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 rc src dst hsrc hdst) kt) Q) := by
  subst hr
  unfold due owing
  iintro ⟨#He, ⟨%W, HO⟩, Hc, Hat⟩ Hk
  iapply (Rounds.wp_wait_rest_token 𝒱₀ ER (rd I) (c : Thread nD τ) none (κ := K (c, .inr (.inr k)))
      (wpE_waitDma2_eq 𝒱₀ (c : Thread nD τ) none Set.univ) (Set.mem_univ _) () (O := oweX c l) (W := W) (R := 0) (m := 0) (T := ∅)
      (by rw [Nat.zero_add, hN, expect_rcv])) $$ [Hc HO Hat]
  · isplitr; · iapply (env_inv I K (c, .inr (.inr k))); iexact He
    isplitl [Hc]; · rw [hN]; iexact Hc
    isplitl [HO]; · iexact HO
    isplitr
    · iapply (mayWait_x c (.dma (rcvS k)) l (by rw [lv_rcv]; exact hlt)); iapply (env_lev I K); iexact He
    iexact Hat
  iintro ⟨HO, Hat, -, Hpay⟩
  ihave Hp := (Entails.of_eq (rest_rcv I k c)) $$ Hpay
  imod (Rounds.cell_close ER (rd I) (Set.mem_univ (K (c, .inr (.inr k)))) (fun h => h) (R := 0 + 1) (duties_later I (rcvCell k c))) $$ [Hat] with Hz
  · isplitr; · iapply (env_inv I K (c, .inr (.inr k))); iexact He
    iexact Hat
  iapply Hk
  isplitl [Hp]; · iexact Hp
  isplitl [Hz]; · iexact Hz
  iexists _; iexact HO

/-- The wait for slot `k`'s own copy to be away: the source's share back, and the semaphore at zero. -/
theorem back_step {Q : α → sProp 𝕄} (k : Fin 11) (c : Dev nD) {s s' : Shape} {e' : EltTy}
    {src : Memref sig .tc .vmem s' e'} {dst : Memref sig .tc .vmem s .bf16} {sn : DmaSem sig}
    (hs : sn = sndS k) (hN : dst.view.dmaCredit = cr k)
    {hsrc : src.view.WordExact} {hdst : dst.view.WordExact}
    {kt : PUnit → Prog (TpuEff nD τ sig (Elt F) Λ₀ .tc) α} :
    (iprop(env I K ∗ owing c [] ∗ away k c) : sProp 𝕄)
      ⊢ iprop(((lent I k c ∗ semVal (sndCell k c) 0 ∗ owing c []) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sn src dst hsrc hdst) kt) Q) := by
  subst hs
  unfold away owing
  iintro ⟨#He, ⟨%W, HO⟩, Hc, Hat⟩ Hk
  iapply (Rounds.wp_wait_rest_token 𝒱₀ ER (rd I) (c : Thread nD τ) none (κ := K (c, .inr (.inl k)))
      (wpE_waitDma2_eq 𝒱₀ (c : Thread nD τ) none Set.univ) (Set.mem_univ _) () (O := oweX c []) (W := W) (R := 0) (m := 0) (T := ∅)
      (by rw [Nat.zero_add, hN, expect_snd])) $$ [Hc HO Hat]
  · isplitr; · iapply (env_inv I K (c, .inr (.inl k))); iexact He
    isplitl [Hc]; · rw [hN]; iexact Hc
    isplitl [HO]; · iexact HO
    isplitr
    · iapply (mayWait_x c (.dma (sndS k)) [] (fun i hi => absurd hi List.not_mem_nil)); iapply (env_lev I K); iexact He
    iexact Hat
  iintro ⟨HO, Hat, -, Hpay⟩
  ihave Hp := (Entails.of_eq (rest_snd I k c)) $$ Hpay
  imod (Rounds.cell_close ER (rd I) (Set.mem_univ (K (c, .inr (.inl k)))) (fun h => h) (R := 0 + 1) (duties_later I (sndCell k c))) $$ [Hat] with Hz
  · isplitr; · iapply (env_inv I K (c, .inr (.inl k))); iexact He
    iexact Hat
  iapply Hk
  isplitl [Hp]; · iexact Hp
  isplitl [Hz]; · iexact Hz
  iexists _; iexact HO

end Cert.RingMlp

end
-- ==== Proof.Parts.lean ====
/-
  THE BODY's parts, first half: the meeting on the barrier, the device's own rows sent out, the first rows received, passed
  on and worked on. Each part of the printed body has one statement: what it takes, what it leaves, what it returns.
-/
module

public import proofs.«01_k».proof.Proof.Steps

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (I : Ins F) (K : Dev nD × CI → ℕ)

theorem w0 : A0.IsWhole := Memref.isWhole_whole _
theorem w1 : A1.IsWhole := Memref.isWhole_whole _
theorem w2 : A2.IsWhole := Memref.isWhole_whole _
theorem w3 : A3.IsWhole := Memref.isWhole_whole _
theorem w4 : A4.IsWhole := Memref.isWhole_whole _
theorem w5 : A5.IsWhole := Memref.isWhole_whole _
theorem w6 : A6.IsWhole := Memref.isWhole_whole _
theorem w7 : A7.IsWhole := Memref.isWhole_whole _

/-! ## Values with axes of size one in front -/

def t1 {β : Type} (h : S256x512.Idx → β) : S1x256x512.Idx → β := fun i => h (Shape.reshapeEquiv squeezes_S1x256x512_S256x512.numel_eq.symm i)
def t11 {β : Type} (h : S256x512.Idx → β) : S1x1x256x512.Idx → β := fun i => h (Shape.reshapeEquiv squeezes_S1x1x256x512_S256x512.numel_eq.symm i)

/-- Casting them off again. -/
theorem cast_t1 {β : Type} (h : S256x512.Idx → β) : shapeCast S256x512 (t1 h) shapeCasts_S1x256x512_S256x512 = h := by
  funext i; unfold t1 shapeCast; beta_reduce; rw [Shape.reshapeEquiv_reshapeEquiv, Shape.reshapeEquiv_self]
theorem cast_t11 {β : Type} (h : S256x512.Idx → β) : shapeCast S256x512 (t11 h) shapeCasts_S1x1x256x512_S256x512 = h := by
  funext i; unfold t11 shapeCast; beta_reduce; rw [Shape.reshapeEquiv_reshapeEquiv, Shape.reshapeEquiv_self]
theorem t1_sq {β : Type} (h : S256x512.Idx → β) : (fun i => t1 h (Shape.reshapeEquiv squeezes_S1x256x512_S256x512.numel_eq i)) = h := cast_t1 h
theorem t11_sq {β : Type} (h : S256x512.Idx → β) : (fun i => t11 h (Shape.reshapeEquiv squeezes_S1x1x256x512_S256x512.numel_eq i)) = h := cast_t11 h

/-- The kernel's first two stores write what was read; the others the rounded part of what was received; the rest are the
    device's own part and the sums. -/
theorem pay1_eq (h : Vec F S256x512 .bf16) : k0_pay1 h = t1 h := by
  unfold k0_pay1; funext i; unfold t1; simp only [shapeCast_self]; rfl
theorem pay2_eq (h : Vec F S256x512 .bf16) : k0_pay2 h = t1 h := by
  unfold k0_pay2; funext i; unfold t1; simp only [shapeCast_self]; rfl

variable (c : Dev nD)
theorem pay8_eq (h : Vec F S256x512 .bf16) :
    k0_pay8 (k0_pay4 (I.v c)) (k0_pay7 (k0_pay3 (I.u c)) (t11 h)) (constant S256x512 .f32 0x00000000#32) = t11 (part I c h) := by
  unfold k0_pay8 k0_pay7; simp only [cast_t11]; rfl
theorem pay9_eq (h : Vec F S256x512 .bf16) : k0_pay9 (k0_pay3 (I.u c)) (k0_pay4 (I.v c)) (t11 h) = t11 (part I c h) := by
  unfold k0_pay9; simp only [cast_t11]; rfl
theorem pay10_eq (h : Vec F S256x512 .bf16) : k0_pay10 (k0_pay3 (I.u c)) (k0_pay4 (I.v c)) (t11 h) = t11 (part I c h) := pay9_eq I c h
theorem pay11_eq (h : Vec F S256x512 .bf16) : k0_pay11 (k0_pay3 (I.u c)) (k0_pay4 (I.v c)) (t11 h) = t11 (part I c h) := pay9_eq I c h
theorem pay12_eq (h : Vec F S256x512 .bf16) : k0_pay12 (k0_pay3 (I.u c)) (k0_pay4 (I.v c)) (t11 h) = t11 (part I c h) := pay9_eq I c h
theorem pay13_eq (h : Vec F S256x512 .bf16) : k0_pay13 (k0_pay3 (I.u c)) (k0_pay4 (I.v c)) (t11 h) = t11 (part I c h) := pay9_eq I c h
theorem pay6_eq (h : Vec F S256x512 .bf16) : k0_pay6 (k0_pay4 (I.v c)) (k0_pay5 (I.u c) (t1 h)) = mlp I c h := by
  unfold k0_pay6 k0_pay5; simp only [cast_t1]; rfl
theorem pay14_eq (h : Vec F S256x512 .bf16) : k0_pay14 (k0_pay3 (I.u c)) (k0_pay4 (I.v c)) (t1 h) = mlp I c h := by
  unfold k0_pay14; simp only [cast_t1]; rfl

variable {α : Type}

/-! ## Loads and stores of this kernel's tiles -/

theorem ld_whole {Q : α → sProp 𝕄} {s : Shape} {e : EltTy} (M : Memref sig .tc .vmem s e) {off : Fin s.rank → ℕ} (inb : ∀ a, off a + s.size a ≤ s.size a)
    {hl : M.view.LoadsAt (Rect.unit off s.size inb).toLoadRect}
    {k : (s.Idx → Elt F e) → Prog (TpuEff nD τ sig (Elt F) Λ₀ .tc) α} (q : PosShare TreeShare) (X : s.Idx → Elt F e) :
    (owns (c : Thread nD τ) M q X : sProp 𝕄)
      ⊢ iprop((owns (c : Thread nD τ) M q X -∗ wp frame (wpE (defs₀ (F := F)) 𝒱₀ (c : Thread nD τ) none) Set.univ (k X) Q)
        -∗ wp frame (wpE (defs₀ (F := F)) 𝒱₀ (c : Thread nD τ) none) Set.univ (.op (.load M (Rect.unit off s.size inb).toLoadRect hl) k) Q) := by
  have h : (fun i => X ((Rect.unit off s.size inb).emb i)) = X := funext fun i => congrArg X (funext fun a => Fin.ext (by
    have := inb a
    show off a + 1 * (i a).val = (i a).val
    omega))
  have := wp_load_part c q M (Rect.unit off s.size inb) (hl := hl) (k := k) (Q := Q) X
  rwa [h] at this

/-- Half `j` of the device's rows read from where both lie. -/
theorem ld_both {Q : α → sProp 𝕄} (j : Fin 2) {hl : A4.view.LoadsAt (r3 j).toLoadRect}
    {k : Vec F S1x256x512 .bf16 → Prog (TpuEff nD τ sig (Elt F) Λ₀ .tc) α} (q : PosShare TreeShare) :
    (owns (c : Thread nD τ) A4 q (both I c) : sProp 𝕄)
      ⊢ iprop((owns (c : Thread nD τ) A4 q (both I c) -∗ wp frame (wpE (defs₀ (F := F)) 𝒱₀ (c : Thread nD τ) none) Set.univ (k (t1 (half I c j))) Q)
        -∗ wp frame (wpE (defs₀ (F := F)) 𝒱₀ (c : Thread nD τ) none) Set.univ (.op (.load A4 (r3 j).toLoadRect hl) k) Q) := by
  have h : (fun i => both I c ((r3 j).emb i)) = t1 (half I c j) := funext fun i => both_tile c I j i
  have := wp_load_part c q A4 (r3 j) (hl := hl) (k := k) (Q := Q) (both I c)
  rwa [h] at this

/-- Half `j` of the device's block of `x` read. -/
theorem ld_half {Q : α → sProp 𝕄} (j : Fin 2) {hl : A0.view.LoadsAt (rh j).toLoadRect}
    {k : Vec F S256x512 .bf16 → Prog (TpuEff nD τ sig (Elt F) Λ₀ .tc) α} (q : PosShare TreeShare) :
    (owns (c : Thread nD τ) A0 q (I.x c) : sProp 𝕄)
      ⊢ iprop((owns (c : Thread nD τ) A0 q (I.x c) -∗ wp frame (wpE (defs₀ (F := F)) 𝒱₀ (c : Thread nD τ) none) Set.univ (k (half I c j)) Q)
        -∗ wp frame (wpE (defs₀ (F := F)) 𝒱₀ (c : Thread nD τ) none) Set.univ (.op (.load A0 (rh j).toLoadRect hl) k) Q) :=
  wp_load_part c q A0 (rh j) (hl := hl) (k := k) (Q := Q) (I.x c)

/-- Half `j` of the right neighbour's rows read from where both landed. -/
theorem ld_xr {Q : α → sProp 𝕄} (d : Dev nD) (j : Fin 2) {hl : A5.view.LoadsAt (r4 (1, j)).toLoadRect}
    {k : Vec F S1x1x256x512 .bf16 → Prog (TpuEff nD τ sig (Elt F) Λ₀ .tc) α} (q : PosShare TreeShare) :
    (owns (c : Thread nD τ) xr q (both I d) : sProp 𝕄)
      ⊢ iprop((owns (c : Thread nD τ) xr q (both I d) -∗ wp frame (wpE (defs₀ (F := F)) 𝒱₀ (c : Thread nD τ) none) Set.univ (k (t11 (half I d j))) Q)
        -∗ wp frame (wpE (defs₀ (F := F)) 𝒱₀ (c : Thread nD τ) none) Set.univ (.op (.load A5 (r4 (1, j)).toLoadRect hl) k) Q) := by
  have h : (fun i : S1x1x256x512.Idx => both I d (Shape.reshapeEquiv squeezes_S1x2x256x512_S2x256x512.numel_eq.symm (ix4 (0 : Fin 1) j (i 2) (i 3)))) = t11 (half I d j) :=
    funext fun i => both_xr d I j i
  have := wp_load_within c q A5 r12 (r4 (1, j)) (fun _ => rfl) squeezes_S1x2x256x512_S2x256x512 (fun i => ix4 (0 : Fin 1) j (i 2) (i 3))
    (fun i => by
      funext a
      apply Fin.ext
      have h0 : (i 0).val = 0 := by have := (i 0).isLt; simp at this; exact this
      have h1 : (i 1).val = 0 := by have := (i 1).isLt; simp at this; exact this
      fin_cases a
      · show 1 + 1 * (i 0).val = 1 + 1 * 0; omega
      · show j.val + 1 * (i 1).val = 0 + 1 * j.val; omega
      · rfl
      · rfl)
    (hl := hl) (k := k) (Q := Q) (both I d)
  rw [← h]
  exact this

/-- A tile of a stack read. -/
theorem ld_tl {Q : α → sProp 𝕄} (M : Memref sig .tc .vmem S3x2x256x512 .bf16) (a : Fin 3) (j : Fin 2) {hl : M.view.LoadsAt (r4 (a, j)).toLoadRect}
    {k : Vec F S1x1x256x512 .bf16 → Prog (TpuEff nD τ sig (Elt F) Λ₀ .tc) α} (q : PosShare TreeShare) (X : Vec F S256x512 .bf16) :
    (owns (c : Thread nD τ) (tl M a j) q X : sProp 𝕄)
      ⊢ iprop((owns (c : Thread nD τ) (tl M a j) q X -∗ wp frame (wpE (defs₀ (F := F)) 𝒱₀ (c : Thread nD τ) none) Set.univ (k (t11 X)) Q)
        -∗ wp frame (wpE (defs₀ (F := F)) 𝒱₀ (c : Thread nD τ) none) Set.univ (.op (.load M (r4 (a, j)).toLoadRect hl) k) Q) :=
  wp_load_tile c q M (r4 (a, j)) (fun _ => rfl) squeezes_S1x1x256x512_S256x512 X

/-- A tile of a stack, whatever it holds, read and then overwritten. -/
theorem st_tl {Q : α → sProp 𝕄} (M : Memref sig .tc .vmem S3x2x256x512 .bf16) (a : Fin 3) (j : Fin 2) (w : Vec F S1x1x256x512 .bf16)
    (X : Vec F S256x512 .bf16) (hw : w = t11 X) {hl : M.view.LoadsAt (r4 (a, j)).toLoadRect}
    {hx : (M.access (r4 (a, j))).Stores Finset.univ} {hm}
    {k : PUnit → Prog (TpuEff nD τ sig (Elt F) Λ₀ .tc) α} :
    (iprop(∃ Y, owns (c : Thread nD τ) (tl M a j) fullShare Y) : sProp 𝕄)
      ⊢ iprop((owns (c : Thread nD τ) (tl M a j) fullShare X -∗ wp frame (wpE (defs₀ (F := F)) 𝒱₀ (c : Thread nD τ) none) Set.univ (k ⟨⟩) Q)
        -∗ wp frame (wpE (defs₀ (F := F)) 𝒱₀ (c : Thread nD τ) none) Set.univ
          (.op (.load M (r4 (a, j)).toLoadRect hl) fun _ => .op (.store M (r4 (a, j)) w Finset.univ hx hm) k) Q) := by
  subst hw
  have h := wp_store_tile c M (r4 (a, j)) (fun _ => rfl) squeezes_S1x1x256x512_S256x512 (hx := hx) (hm := hm) (k := k) (Q := Q) (w := t11 X)
  iintro ⟨%Y, H⟩ Hk
  iapply (ld_tl c M a j fullShare Y) $$ H
  iintro H
  iapply (h Y) $$ H
  rw [t11_sq]
  iintro H
  iapply Hk
  iexact H

/-- Half `j` of the buffer for the device's own rows, whatever it holds, read and then overwritten. -/
theorem st_xm {Q : α → sProp 𝕄} (j : Fin 2) (w : Vec F S1x256x512 .bf16)
    (X : Vec F S256x512 .bf16) (hw : w = t1 X) {hl : A4.view.LoadsAt (r3 j).toLoadRect}
    {hx : (A4.access (r3 j)).Stores Finset.univ} {hm}
    {k : PUnit → Prog (TpuEff nD τ sig (Elt F) Λ₀ .tc) α} :
    (iprop(∃ Y, owns (c : Thread nD τ) (xm j) fullShare Y) : sProp 𝕄)
      ⊢ iprop((owns (c : Thread nD τ) (xm j) fullShare X -∗ wp frame (wpE (defs₀ (F := F)) 𝒱₀ (c : Thread nD τ) none) Set.univ (k ⟨⟩) Q)
        -∗ wp frame (wpE (defs₀ (F := F)) 𝒱₀ (c : Thread nD τ) none) Set.univ
          (.op (.load A4 (r3 j).toLoadRect hl) fun _ => .op (.store A4 (r3 j) w Finset.univ hx hm) k) Q) := by
  subst hw
  have h := wp_store_tile c A4 (r3 j) (fun _ => rfl) squeezes_S1x256x512_S256x512 (hx := hx) (hm := hm) (k := k) (Q := Q) (w := t1 X)
  iintro ⟨%Y, H⟩ Hk
  iapply (wp_load_tile c fullShare A4 (r3 j) (fun _ => rfl) squeezes_S1x256x512_S256x512 Y) $$ H
  iintro H
  iapply (h Y) $$ H
  rw [t1_sq]
  iintro H
  iapply Hk
  iexact H

/-! ## The semaphores and credits as the body names them -/

theorem inb11 (k : Fin 11) : ∀ a, (![k.val] : Fin 1 → Nat) a + S1.size a ≤ S11.size a := by revert k; decide
/-- Entry `k` of the send array and of the receive array. -/
abbrev sndP (k : Fin 11) : DmaSem sig := (((cc0_scratch4 : DmaSems sig S11).slice (Rect.unit (s := S11) ![k.val] S1.size (inb11 k))).squeeze S_ squeezes_S1_S_).sem
abbrev rcvP (k : Fin 11) : DmaSem sig := (((cc0_scratch5 : DmaSems sig S11).slice (Rect.unit (s := S11) ![k.val] S1.size (inb11 k))).squeeze S_ squeezes_S1_S_).sem
theorem snd_eq (k : Fin 11) : sndP k = sndS k := by fin_cases k <;> rfl
theorem rcv_eq (k : Fin 11) : rcvP k = rcvS k := by fin_cases k <;> rfl

theorem cr_tl (M : Memref sig .tc .vmem S3x2x256x512 .bf16) (a : Fin 3) (j : Fin 2) (k : Fin 11) (hk : k ≠ 2) : (tl M a j).view.dmaCredit = cr k := by
  unfold cr; rw [if_neg hk]
theorem cr_xm (j : Fin 2) (k : Fin 11) (hk : k ≠ 2) : (xm j).view.dmaCredit = cr k := by
  unfold cr; rw [if_neg hk]
theorem cr_xr : (xr).view.dmaCredit = cr 2 := by unfold cr; rw [if_pos rfl]
theorem cr_A4 : A4.view.dmaCredit = cr 2 := by unfold cr; rw [if_pos rfl]

/-! ## The parts -/

/-- Part 1 reads the device's number. -/
theorem part1_spec {Q : _ → sProp 𝕄} : (iprop(∀ v w u, Q ⟨c, v, w, u⟩) : sProp 𝕄)
    ⊢ wp frame (wpE (defs₀ (F := F)) 𝒱₀ (c : Thread nD τ) none) Set.univ
      (k0_part1 A0 w0 A1 w1 A2 w2 A3 w3 A4 w4 A5 w5 A6 w6 A7 w7 cc0_scratch4 cc0_scratch5) Q := by
  rw [k0_part1_eq_skeleton]; unfold k0_part1_skel
  simp only [Prog.lift, Prog.bind_op, Prog.bind_ret, Prog.pure_eq_ret, wp_deviceId]
  rw [wp_ret]
  iintro H
  imodintro
  iapply H

end Cert.RingMlp

end
-- ==== Proof.Parts2.lean ====
/-
  THE BODY's parts, first half: the meeting on the barrier, the device's own rows sent out, the first rows received, passed
  on and worked on.
-/
module

public import proofs.«01_k».proof.Proof.Parts

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (I : Ins F) (K : Dev nD × CI → ℕ)

variable (c : Dev nD)

/-! ## Where the copies come from -/

theorem fro_0 : fro 0 c = lft c := by revert c; decide
theorem fro_1 : fro 1 c = lft c := by revert c; decide
theorem fro_2 : fro 2 c = rgt c := by revert c; decide
theorem fro_3 : fro 3 c = lft c := by revert c; decide
theorem fro_4 : fro 4 c = lft c := by revert c; decide
theorem fro_5 : fro 5 c = rgt c := by revert c; decide
theorem fro_6 : fro 6 c = rgt c := by revert c; decide
theorem fro_7 : fro 7 c = lft c := by revert c; decide
theorem fro_8 : fro 8 c = lft c := by revert c; decide
theorem fro_9 : fro 9 c = opp c := by revert c; decide
theorem fro_10 : fro 10 c = opp c := by revert c; decide
theorem dest_r : dest 0 c = rgt c ∧ dest 1 c = rgt c ∧ dest 3 c = rgt c ∧ dest 4 c = rgt c ∧ dest 7 c = rgt c ∧ dest 8 c = rgt c := by
  revert c; decide
theorem dest_l : dest 2 c = lft c ∧ dest 5 c = lft c ∧ dest 6 c = lft c := by revert c; decide
theorem dest_o : dest 9 c = opp c ∧ dest 10 c = opp c := by revert c; decide

/-- The wait for slot `k`'s copy, with the place it landed and its contents named. -/
theorem recv_at {α : Type} {Q : α → sProp 𝕄} (k : Fin 11) (l : List (Fin 11)) (hlt : ∀ i ∈ l, slv k < slv i) {s s' : Shape} {e' : EltTy}
    {src : Memref sig .tc .vmem s' e'} (dst : Memref sig .tc .vmem s .bf16) (X : s.Idx → Elt F .bf16) {rc : DmaSem sig}
    (hr : rc = rcvS k) (hN : dst.view.dmaCredit = cr k) {d : Dev nD} (hd : fro k c = d) (hX : got I k d c = owns (c : Thread nD τ) dst fullShare X)
    {hsrc : src.view.WordExact} {hdst : dst.view.WordExact}
    {kt : PUnit → Prog (TpuEff nD τ sig (Elt F) Λ₀ .tc) α} :
    (iprop(env I K ∗ owing c l ∗ due k c) : sProp 𝕄)
      ⊢ iprop(((owns (c : Thread nD τ) dst fullShare X ∗ semVal (rcvCell k c) 0 ∗ owing c l) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 rc src dst hsrc hdst) kt) Q) := by
  rw [← hX, ← hd]
  exact recv_step I K k c l hlt hr hN

/-! ## The parts -/

/-- Part 2: each peer is told that its places here are free, the three peers' word is awaited, and the device's rows are laid out. -/
theorem part2_spec (v13 v24 v35 : BitVec 32) {Q : _ → sProp 𝕄} :
    (iprop(env I K ∗ (∃ W, owes (c : Thread nD τ) (O₀ c) W)
        ∗ (dutyTok ER (barCell (lft c)) 0 2 ∗ dutyTok ER (barCell (rgt c)) 0 0 ∗ dutyTok ER (barCell (opp c)) 0 1)
        ∗ cred (tallyAt (barCell c) () 3) ∗ atPos ER (barCell c) 0 ∅ 0
        ∗ (opn 0 c ∗ opn 1 c ∗ opn 3 c ∗ opn 4 c ∗ opn 7 c ∗ opn 8 c) ∗ (opn 2 c ∗ opn 5 c ∗ opn 6 c) ∗ (opn 9 c ∗ opn 10 c)
        ∗ owns (c : Thread nD τ) A0 fullShare (I.x c) ∗ (∃ Y, owns (c : Thread nD τ) (xm 0) fullShare Y) ∗ (∃ Y, owns (c : Thread nD τ) (xm 1) fullShare Y)) : sProp 𝕄)
    ⊢ iprop(((owing c ord ∗ semVal (barCell c) 0
          ∗ (opn 0 (dest 0 c) ∗ opn 1 (dest 1 c) ∗ opn 3 (dest 3 c) ∗ opn 4 (dest 4 c) ∗ opn 7 (dest 7 c) ∗ opn 8 (dest 8 c))
          ∗ (opn 2 (dest 2 c) ∗ opn 5 (dest 5 c) ∗ opn 6 (dest 6 c)) ∗ (opn 9 (dest 9 c) ∗ opn 10 (dest 10 c))
          ∗ owns (c : Thread nD τ) A0 fullShare (I.x c) ∗ owns (c : Thread nD τ) (xm 0) fullShare (half I c 0) ∗ owns (c : Thread nD τ) (xm 1) fullShare (half I c 1)) -∗ Q ⟨⟩)
      -∗ wp frame (wpE (defs₀ (F := F)) 𝒱₀ (c : Thread nD τ) none) Set.univ (k0_part2 A0 w0 A1 w1 A2 w2 A3 w3 A4 w4 A5 w5 A6 w6 A7 w7 cc0_scratch4 cc0_scratch5 c v13 v24 v35) Q) := by
  rw [k0_part2_eq_skeleton]; unfold k0_part2_skel
  simp only [semSignalWord, semWaitWord, Prog.lift, Prog.bind_op, Prog.bind_ret, Prog.pure_eq_ret]
  simp only [dev1_eq c, dev2_eq c, dev3_eq c]
  iintro ⟨#He, ⟨%W, HO⟩, ⟨HtL, HtR, HtO⟩, Hc, Hat, HoR, HoL, HoO, Hx, H0, H1⟩ Hk
  iapply (Rounds.wp_signal 𝒱₀ ER (rd I) (c : Thread nD τ) none (dst := (lft c : Thread nD τ)) (κ := K (lft c, .inl ()))
      (d := 2) (by rw [duties_bar]; exact Finset.mem_univ _) ((amount_bar I (lft c) 2).trans (by decide)) ()
      (oweX c ord + tallyAt (barCell (opp c)) () 1 + tallyAt (barCell (rgt c)) () 1) rfl) $$ [HO HtL HoR]
  · isplitr; · iapply (env_inv I K (lft c, .inl ())); iexact He
    isplitl [HO]; · iexact HO
    isplitl [HtL]; · iexact HtL
    isplitl [HoR]; · rw [payload_bar]; unfold barPay; rw [rgt_lft]; iexact HoR
    iapply (env_reached I K (lft c, .inl ())); iexact He
  iintro HO
  iapply (Rounds.wp_signal 𝒱₀ ER (rd I) (c : Thread nD τ) none (dst := (rgt c : Thread nD τ)) (κ := K (rgt c, .inl ()))
      (d := 0) (by rw [duties_bar]; exact Finset.mem_univ _) ((amount_bar I (rgt c) 0).trans (by decide)) ()
      (oweX c ord + tallyAt (barCell (opp c)) () 1) rfl) $$ [HO HtR HoL]
  · isplitr; · iapply (env_inv I K (rgt c, .inl ())); iexact He
    isplitl [HO]; · iexact HO
    isplitl [HtR]; · iexact HtR
    isplitl [HoL]; · rw [payload_bar]; unfold barPay; rw [lft_rgt]; iexact HoL
    iapply (env_reached I K (rgt c, .inl ())); iexact He
  iintro HO
  iapply (Rounds.wp_signal 𝒱₀ ER (rd I) (c : Thread nD τ) none (dst := (opp c : Thread nD τ)) (κ := K (opp c, .inl ()))
      (d := 1) (by rw [duties_bar]; exact Finset.mem_univ _) ((amount_bar I (opp c) 1).trans (by decide)) ()
      (oweX c ord) rfl) $$ [HO HtO HoO]
  · isplitr; · iapply (env_inv I K (opp c, .inl ())); iexact He
    isplitl [HO]; · iexact HO
    isplitl [HtO]; · iexact HtO
    isplitl [HoO]; · rw [payload_bar]; unfold barPay; rw [opp_opp]; iexact HoO
    iapply (env_reached I K (opp c, .inl ())); iexact He
  iintro HO
  iapply (Rounds.wp_wait_rest_token 𝒱₀ ER (rd I) (c : Thread nD τ) none (κ := K (c, .inl ()))
      (wpE_semWait_eq 𝒱₀ (c : Thread nD τ) none Set.univ) (Set.mem_univ _) () (O := oweX c ord) (W := W) (R := 0) (m := 0) (T := ∅)
      (by rw [expect_bar]; decide)) $$ [Hc HO Hat]
  · isplitr; · iapply (env_inv I K (c, .inl ())); iexact He
    isplitl [Hc]; · iexact Hc
    isplitl [HO]; · iexact HO
    isplitr; · iapply (mayWait_x c (.reg barS) ord (by rw [lv_bar]; decide)); iapply (env_lev I K); iexact He
    iexact Hat
  iintro ⟨HO, Hat, -, Hpay⟩
  ihave Hp := (Entails.of_eq (rest_bar I c)) $$ Hpay
  imod (Rounds.cell_close ER (rd I) (Set.mem_univ (K (c, .inl ()))) (fun h => h) (R := 0 + 1) (duties_later I (barCell c))) $$ [Hat] with Hz
  · isplitr; · iapply (env_inv I K (c, .inl ())); iexact He
    iexact Hat
  unfold barPay
  icases Hp with ⟨HpL, HpO, HpR⟩
  iapply (ld_half I c 0 fullShare) $$ Hx; iintro Hx
  iapply (st_xm c 0 _ (half I c 0) (pay1_eq _)) $$ H0; iintro H0
  iapply (ld_half I c 1 fullShare) $$ Hx; iintro Hx
  iapply (st_xm c 1 _ (half I c 1) (pay2_eq _)) $$ H1; iintro H1
  rw [wp_ret]; imodintro
  iapply Hk
  isplitl [HO]; · unfold owing; iexists _; iexact HO
  isplitl [Hz]; · iexact Hz
  isplitl [HpR]
  · obtain ⟨e0, e1, e3, e4, e7, e8⟩ := dest_r c; rw [e0, e1, e3, e4, e7, e8]; iexact HpR
  isplitl [HpL]
  · obtain ⟨e2, e5, e6⟩ := dest_l c; rw [e2, e5, e6]; iexact HpL
  isplitl [HpO]
  · obtain ⟨e9, e10⟩ := dest_o c; rw [e9, e10]; iexact HpO
  isplitl [Hx]; · iexact Hx
  isplitl [H0] <;> iassumption

/-- Part 3: the device's own rows start out in three copies; its weights and the first half of its rows are read. -/
theorem part3_spec (v13 v24 : BitVec 32) {Q : _ → sProp 𝕄} :
    (iprop(env I K ∗ owns (c : Thread nD τ) (xm 0) fullShare (half I c 0) ∗ owns (c : Thread nD τ) (xm 1) fullShare (half I c 1)
        ∗ (opn 0 (dest 0 c) ∗ opn 1 (dest 1 c) ∗ opn 2 (dest 2 c)) ∗ (fresh 0 c ∗ fresh 1 c ∗ fresh 2 c) ∗ owing c ord
        ∗ owns (c : Thread nD τ) A1 fullShare (I.u c) ∗ owns (c : Thread nD τ) A2 fullShare (I.v c)) : sProp 𝕄)
    ⊢ iprop(((owns (c : Thread nD τ) A4 fullShare.right.right (both I c) ∗ (away 0 c ∗ away 1 c ∗ away 2 c) ∗ owing c [3, 5, 4, 6, 9, 7, 10, 8]
          ∗ owns (c : Thread nD τ) A1 fullShare (I.u c) ∗ owns (c : Thread nD τ) A2 fullShare (I.v c)) -∗ Q ⟨k0_pay3 (I.u c), k0_pay4 (I.v c), k0_pay5 (I.u c) (t1 (half I c 0))⟩)
      -∗ wp frame (wpE (defs₀ (F := F)) 𝒱₀ (c : Thread nD τ) none) Set.univ (k0_part3 A0 w0 A1 w1 A2 w2 A3 w3 A4 w4 A5 w5 A6 w6 A7 w7 cc0_scratch4 cc0_scratch5 c v13 v24) Q) := by
  rw [k0_part3_eq_skeleton]; unfold k0_part3_skel
  simp only [Prog.lift, Prog.bind_op, Prog.bind_ret, Prog.pure_eq_ret]
  iintro ⟨#He, Hx0, Hx1, ⟨Ho0, Ho1, Ho2⟩, ⟨Hf0, Hf1, Hf2⟩, HO, Hu, Hv⟩ Hk
  ihave Hx0 := (owns_halves (c : Thread nD τ) (xm 0) fullShare (half I c 0)).1 $$ Hx0
  ihave Hx1 := (owns_halves (c : Thread nD τ) (xm 1) fullShare (half I c 1)).1 $$ Hx1
  icases Hx0 with ⟨Hx0, Hy0⟩
  icases Hx1 with ⟨Hx1, Hy1⟩
  ihave Hy := (close2 c fullShare.right I) $$ [$Hy0 $Hy1]
  ihave Hy := (owns_halves (c : Thread nD τ) A4 fullShare.right (both I c)).1 $$ Hy
  icases Hy with ⟨Hy, Hz⟩
  iapply (send_step I K 0 c _ [1, 2, 3, 5, 4, 6, 9, 7, 10, 8] (dev4_eq c) (src := xm 0) (dst := tl A5 0 0) (half I c 0) (snd_eq 0) (rcv_eq 0) (cr_tl A5 0 0 0 (by decide))
    (BI.Entails.refl _) (by unfold got; exact BI.Entails.refl _) (BI.Entails.refl _)) $$ [$He $Hx0 $Ho0 $HO $Hf0]
  iintro ⟨Ha0, HO⟩
  iapply (send_step I K 1 c _ [2, 3, 5, 4, 6, 9, 7, 10, 8] (dev5_eq c) (src := xm 1) (dst := tl A5 0 1) (half I c 1) (snd_eq 1) (rcv_eq 1) (cr_tl A5 0 1 1 (by decide))
    (BI.Entails.refl _) (by unfold got; exact BI.Entails.refl _) (BI.Entails.refl _)) $$ [$He $Hx1 $Ho1 $HO $Hf1]
  iintro ⟨Ha1, HO⟩
  iapply (send_step I K 2 c _ [3, 5, 4, 6, 9, 7, 10, 8] (dev6_eq c) (src := A4) (dst := xr) (both I c) (snd_eq 2) (rcv_eq 2) cr_xr
    (BI.Entails.refl _) (by unfold got; exact BI.Entails.refl _) (BI.Entails.refl _)) $$ [$He $Hy $Ho2 $HO $Hf2]
  iintro ⟨Ha2, HO⟩
  iapply (ld_whole c A1 _ fullShare (I.u c)) $$ Hu; iintro Hu
  iapply (ld_whole c A2 _ fullShare (I.v c)) $$ Hv; iintro Hv
  iapply (ld_both I c 0 fullShare.right.right) $$ Hz; iintro Hz
  rw [wp_ret]; imodintro
  iapply Hk
  iframe Hz Ha0 Ha1 Ha2 HO Hu Hv

/-- Part 4: the left neighbour's first half arrives, is passed on and read. -/
theorem part4_spec (v13 v24 : BitVec 32) {Q : _ → sProp 𝕄} :
    (iprop(env I K ∗ owing c [3, 5, 4, 6, 9, 7, 10, 8] ∗ due 0 c ∗ opn 3 (dest 3 c) ∗ fresh 3 c) : sProp 𝕄)
    ⊢ iprop(((owing c [5, 4, 6, 9, 7, 10, 8] ∗ semVal (rcvCell 0 c) 0 ∗ away 3 c ∗ owns (c : Thread nD τ) (tl A5 0 0) fullShare.right (half I (lft c) 0)) -∗ Q ⟨mlp I c (half I c 0), k0_pay7 (k0_pay3 (I.u c)) (t11 (half I (lft c) 0)), constant S256x512 .f32 0x00000000#32⟩)
      -∗ wp frame (wpE (defs₀ (F := F)) 𝒱₀ (c : Thread nD τ) none) Set.univ (k0_part4 A0 w0 A1 w1 A2 w2 A3 w3 A4 w4 A5 w5 A6 w6 A7 w7 cc0_scratch4 cc0_scratch5 c v13 v24 (k0_pay3 (I.u c)) (k0_pay4 (I.v c)) (k0_pay5 (I.u c) (t1 (half I c 0)))) Q) := by
  rw [k0_part4_eq_skeleton]; unfold k0_part4_skel
  simp only [Prog.lift, Prog.bind_op, Prog.bind_ret, Prog.pure_eq_ret]
  iintro ⟨#He, HO, Hd0, Ho3, Hf3⟩ Hk
  iapply (recv_at I K c 0 [3, 5, 4, 6, 9, 7, 10, 8] (by decide) (tl A5 0 0) (half I (lft c) 0) (rcv_eq 0) (cr_tl A5 0 0 0 (by decide)) (fro_0 c) (by unfold got; rfl)) $$ [$He $HO $Hd0]
  iintro ⟨Hx, Hr0, HO⟩
  ihave Hx := (owns_halves (c : Thread nD τ) (tl A5 0 0) fullShare (half I (lft c) 0)).1 $$ Hx
  icases Hx with ⟨Hx, Hy⟩
  iapply (send_step I K 3 c _ [5, 4, 6, 9, 7, 10, 8] (dev7_eq c) (src := tl A5 0 0) (dst := tl A5 2 0) (half I (lft c) 0) (snd_eq 3) (rcv_eq 3) (cr_tl A5 2 0 3 (by decide))
    (BI.Entails.refl _) (by unfold got; exact BI.Entails.refl _) (BI.Entails.refl _)) $$ [$He $Hx $Ho3 $HO $Hf3]
  iintro ⟨Ha3, HO⟩
  iapply (ld_tl c A5 0 0 fullShare.right (half I (lft c) 0)) $$ Hy; iintro Hy
  rw [pay6_eq]
  rw [wp_ret]; imodintro
  iapply Hk
  iframe HO Hr0 Ha3 Hy

/-- Part 5: the device's part of those rows is written and sent back; the left neighbour's second half arrives. -/
theorem part5_spec (v13 : BitVec 32) {Q : _ → sProp 𝕄} :
    (iprop(env I K ∗ owing c [5, 4, 6, 9, 7, 10, 8] ∗ (∃ Y, owns (c : Thread nD τ) (tl A6 0 0) fullShare Y) ∗ opn 5 (dest 5 c) ∗ fresh 5 c ∗ due 1 c) : sProp 𝕄)
    ⊢ iprop(((owing c [4, 6, 9, 7, 10, 8] ∗ away 5 c ∗ semVal (rcvCell 1 c) 0 ∗ owns (c : Thread nD τ) (tl A5 0 1) fullShare (half I (lft c) 1)) -∗ Q 1#32)
      -∗ wp frame (wpE (defs₀ (F := F)) 𝒱₀ (c : Thread nD τ) none) Set.univ (k0_part5 A0 w0 A1 w1 A2 w2 A3 w3 A4 w4 A5 w5 A6 w6 A7 w7 cc0_scratch4 cc0_scratch5 c v13 (k0_pay4 (I.v c)) (k0_pay7 (k0_pay3 (I.u c)) (t11 (half I (lft c) 0))) (constant S256x512 .f32 0x00000000#32)) Q) := by
  rw [k0_part5_eq_skeleton]; unfold k0_part5_skel
  simp only [Prog.lift, Prog.bind_op, Prog.bind_ret, Prog.pure_eq_ret]
  iintro ⟨#He, HO, Hs, Ho5, Hf5, Hd1⟩ Hk
  iapply (st_tl c A6 0 0 _ (part I c (half I (lft c) 0)) (pay8_eq I c _)) $$ Hs; iintro Hs
  iapply (send_step I K 5 c _ [4, 6, 9, 7, 10, 8] (dev8_eq c) (src := tl A6 0 0) (dst := tl A7 1 0) (part I c (half I (lft c) 0)) (snd_eq 5) (rcv_eq 5) (cr_tl A7 1 0 5 (by decide))
    (BI.Entails.refl _) (by unfold got; exact BI.Entails.refl _) (BI.Entails.refl _)) $$ [$He $Hs $Ho5 $HO $Hf5]
  iintro ⟨Ha5, HO⟩
  iapply (recv_at I K c 1 [4, 6, 9, 7, 10, 8] (by decide) (tl A5 0 1) (half I (lft c) 1) (rcv_eq 1) (cr_tl A5 0 1 1 (by decide)) (fro_1 c) (by unfold got; rfl)) $$ [$He $HO $Hd1]
  iintro ⟨Hx, Hr1, HO⟩
  rw [wp_ret]; imodintro
  iapply Hk
  iframe HO Ha5 Hr1 Hx

/-- Part 6: that half is passed on and worked on. -/
theorem part6_spec (v13 v24 v : BitVec 32) {Q : _ → sProp 𝕄} :
    (iprop(env I K ∗ owing c [4, 6, 9, 7, 10, 8] ∗ owns (c : Thread nD τ) (tl A5 0 1) fullShare (half I (lft c) 1) ∗ (∃ Y, owns (c : Thread nD τ) (tl A6 0 1) fullShare Y) ∗ opn 4 (dest 4 c) ∗ fresh 4 c) : sProp 𝕄)
    ⊢ iprop(((owing c [6, 9, 7, 10, 8] ∗ away 4 c ∗ owns (c : Thread nD τ) (tl A5 0 1) fullShare.right (half I (lft c) 1) ∗ owns (c : Thread nD τ) (tl A6 0 1) fullShare (part I c (half I (lft c) 1))) -∗ Q ⟨⟩)
      -∗ wp frame (wpE (defs₀ (F := F)) 𝒱₀ (c : Thread nD τ) none) Set.univ (k0_part6 A0 w0 A1 w1 A2 w2 A3 w3 A4 w4 A5 w5 A6 w6 A7 w7 cc0_scratch4 cc0_scratch5 c v13 v24 (k0_pay3 (I.u c)) (k0_pay4 (I.v c)) v) Q) := by
  rw [k0_part6_eq_skeleton]; unfold k0_part6_skel
  simp only [Prog.lift, Prog.bind_op, Prog.bind_ret, Prog.pure_eq_ret]
  iintro ⟨#He, HO, Hx, Hs, Ho4, Hf4⟩ Hk
  ihave Hx := (owns_halves (c : Thread nD τ) (tl A5 0 1) fullShare (half I (lft c) 1)).1 $$ Hx
  icases Hx with ⟨Hx, Hy⟩
  iapply (send_step I K 4 c _ [6, 9, 7, 10, 8] (dev9_eq c) (src := tl A5 0 1) (dst := tl A5 2 1) (half I (lft c) 1) (snd_eq 4) (rcv_eq 4) (cr_tl A5 2 1 4 (by decide))
    (BI.Entails.refl _) (by unfold got; exact BI.Entails.refl _) (BI.Entails.refl _)) $$ [$He $Hx $Ho4 $HO $Hf4]
  iintro ⟨Ha4, HO⟩
  iapply (ld_tl c A5 0 1 fullShare.right (half I (lft c) 1)) $$ Hy; iintro Hy
  iapply (st_tl c A6 0 1 _ (part I c (half I (lft c) 1)) (pay9_eq I c _)) $$ Hs; iintro Hs
  rw [wp_ret]; imodintro
  iapply Hk
  iframe HO Ha4 Hy Hs

/-- Part 7: the second of those parts is sent; the first half of the rows of the device opposite arrives and is worked on. -/
theorem part7_spec (v13 v35 : BitVec 32) {Q : _ → sProp 𝕄} :
    (iprop(env I K ∗ owing c [6, 9, 7, 10, 8] ∗ owns (c : Thread nD τ) (tl A6 0 1) fullShare (part I c (half I (lft c) 1)) ∗ opn 6 (dest 6 c) ∗ fresh 6 c ∗ due 3 c ∗ (∃ Y, owns (c : Thread nD τ) (tl A6 2 0) fullShare Y)) : sProp 𝕄)
    ⊢ iprop(((owing c [9, 7, 10, 8] ∗ away 6 c ∗ semVal (rcvCell 3 c) 0 ∗ owns (c : Thread nD τ) (tl A5 2 0) fullShare (half I (lft (lft c)) 0) ∗ owns (c : Thread nD τ) (tl A6 2 0) fullShare (part I c (half I (lft (lft c)) 0))) -∗ Q ⟨⟩)
      -∗ wp frame (wpE (defs₀ (F := F)) 𝒱₀ (c : Thread nD τ) none) Set.univ (k0_part7 A0 w0 A1 w1 A2 w2 A3 w3 A4 w4 A5 w5 A6 w6 A7 w7 cc0_scratch4 cc0_scratch5 c v13 v35 (k0_pay3 (I.u c)) (k0_pay4 (I.v c))) Q) := by
  rw [k0_part7_eq_skeleton]; unfold k0_part7_skel
  simp only [Prog.lift, Prog.bind_op, Prog.bind_ret, Prog.pure_eq_ret]
  iintro ⟨#He, HO, Hs, Ho6, Hf6, Hd3, Hw⟩ Hk
  iapply (send_step I K 6 c _ [9, 7, 10, 8] (dev10_eq c) (src := tl A6 0 1) (dst := tl A7 1 1) (part I c (half I (lft c) 1)) (snd_eq 6) (rcv_eq 6) (cr_tl A7 1 1 6 (by decide))
    (BI.Entails.refl _) (by unfold got; exact BI.Entails.refl _) (BI.Entails.refl _)) $$ [$He $Hs $Ho6 $HO $Hf6]
  iintro ⟨Ha6, HO⟩
  iapply (recv_at I K c 3 [9, 7, 10, 8] (by decide) (tl A5 2 0) (half I (lft (lft c)) 0) (rcv_eq 3) (cr_tl A5 2 0 3 (by decide)) (fro_3 c) (by unfold got; rfl)) $$ [$He $HO $Hd3]
  iintro ⟨Hx, Hr3, HO⟩
  iapply (ld_tl c A5 2 0 fullShare (half I (lft (lft c)) 0)) $$ Hx; iintro Hx
  iapply (st_tl c A6 2 0 _ (part I c (half I (lft (lft c)) 0)) (pay10_eq I c _)) $$ Hw; iintro Hw
  rw [wp_ret]; imodintro
  iapply Hk
  iframe HO Ha6 Hr3 Hx Hw

/-- Part 8: that part is sent; the right neighbour's rows arrive and the first half is worked on. -/
theorem part8_spec (v24 : BitVec 32) {Q : _ → sProp 𝕄} :
    (iprop(env I K ∗ owing c [9, 7, 10, 8] ∗ owns (c : Thread nD τ) (tl A6 2 0) fullShare (part I c (half I (lft (lft c)) 0)) ∗ opn 9 (dest 9 c) ∗ fresh 9 c ∗ due 2 c ∗ (∃ Y, owns (c : Thread nD τ) (tl A6 1 0) fullShare Y)) : sProp 𝕄)
    ⊢ iprop(((owing c [7, 10, 8] ∗ away 9 c ∗ semVal (rcvCell 2 c) 0 ∗ owns (c : Thread nD τ) (xr) fullShare (both I (rgt c)) ∗ owns (c : Thread nD τ) (tl A6 1 0) fullShare (part I c (half I (rgt c) 0))) -∗ Q ⟨⟩)
      -∗ wp frame (wpE (defs₀ (F := F)) 𝒱₀ (c : Thread nD τ) none) Set.univ (k0_part8 A0 w0 A1 w1 A2 w2 A3 w3 A4 w4 A5 w5 A6 w6 A7 w7 cc0_scratch4 cc0_scratch5 c v24 (k0_pay3 (I.u c)) (k0_pay4 (I.v c))) Q) := by
  rw [k0_part8_eq_skeleton]; unfold k0_part8_skel
  simp only [Prog.lift, Prog.bind_op, Prog.bind_ret, Prog.pure_eq_ret]
  iintro ⟨#He, HO, Hs, Ho9, Hf9, Hd2, Hw⟩ Hk
  iapply (send_step I K 9 c _ [7, 10, 8] (dev11_eq c) (src := tl A6 2 0) (dst := tl A7 2 0) (part I c (half I (lft (lft c)) 0)) (snd_eq 9) (rcv_eq 9) (cr_tl A7 2 0 9 (by decide))
    (BI.Entails.refl _) (by unfold got; exact BI.Entails.refl _) (BI.Entails.refl _)) $$ [$He $Hs $Ho9 $HO $Hf9]
  iintro ⟨Ha9, HO⟩
  iapply (recv_at I K c 2 [7, 10, 8] (by decide) (xr) (both I (rgt c)) (rcv_eq 2) cr_xr (fro_2 c) (by unfold got; rfl)) $$ [$He $HO $Hd2]
  iintro ⟨Hx, Hr2, HO⟩
  iapply (ld_xr I c (rgt c) 0 fullShare) $$ Hx; iintro Hx
  iapply (st_tl c A6 1 0 _ (part I c (half I (rgt c) 0)) (pay11_eq I c _)) $$ Hw; iintro Hw
  rw [wp_ret]; imodintro
  iapply Hk
  iframe HO Ha9 Hr2 Hx Hw

/-- Part 9: that part is sent; the second half of the rows of the device opposite arrives and is worked on. -/
theorem part9_spec (v13 v35 : BitVec 32) {Q : _ → sProp 𝕄} :
    (iprop(env I K ∗ owing c [7, 10, 8] ∗ owns (c : Thread nD τ) (tl A6 1 0) fullShare (part I c (half I (rgt c) 0)) ∗ opn 7 (dest 7 c) ∗ fresh 7 c ∗ due 4 c ∗ (∃ Y, owns (c : Thread nD τ) (tl A6 2 1) fullShare Y)) : sProp 𝕄)
    ⊢ iprop(((owing c [10, 8] ∗ away 7 c ∗ semVal (rcvCell 4 c) 0 ∗ owns (c : Thread nD τ) (tl A5 2 1) fullShare (half I (lft (lft c)) 1) ∗ owns (c : Thread nD τ) (tl A6 2 1) fullShare (part I c (half I (lft (lft c)) 1))) -∗ Q ⟨⟩)
      -∗ wp frame (wpE (defs₀ (F := F)) 𝒱₀ (c : Thread nD τ) none) Set.univ (k0_part9 A0 w0 A1 w1 A2 w2 A3 w3 A4 w4 A5 w5 A6 w6 A7 w7 cc0_scratch4 cc0_scratch5 c v13 v35 (k0_pay3 (I.u c)) (k0_pay4 (I.v c))) Q) := by
  rw [k0_part9_eq_skeleton]; unfold k0_part9_skel
  simp only [Prog.lift, Prog.bind_op, Prog.bind_ret, Prog.pure_eq_ret]
  iintro ⟨#He, HO, Hs, Ho7, Hf7, Hd4, Hw⟩ Hk
  iapply (send_step I K 7 c _ [10, 8] (dev12_eq c) (src := tl A6 1 0) (dst := tl A7 0 0) (part I c (half I (rgt c) 0)) (snd_eq 7) (rcv_eq 7) (cr_tl A7 0 0 7 (by decide))
    (BI.Entails.refl _) (by unfold got; exact BI.Entails.refl _) (BI.Entails.refl _)) $$ [$He $Hs $Ho7 $HO $Hf7]
  iintro ⟨Ha7, HO⟩
  iapply (recv_at I K c 4 [10, 8] (by decide) (tl A5 2 1) (half I (lft (lft c)) 1) (rcv_eq 4) (cr_tl A5 2 1 4 (by decide)) (fro_4 c) (by unfold got; rfl)) $$ [$He $HO $Hd4]
  iintro ⟨Hx, Hr4, HO⟩
  iapply (ld_tl c A5 2 1 fullShare (half I (lft (lft c)) 1)) $$ Hx; iintro Hx
  iapply (st_tl c A6 2 1 _ (part I c (half I (lft (lft c)) 1)) (pay12_eq I c _)) $$ Hw; iintro Hw
  rw [wp_ret]; imodintro
  iapply Hk
  iframe HO Ha7 Hr4 Hx Hw

/-- Part 10: that part is sent, the right neighbour's second half is worked on and its part sent; the device's own second half is read. -/
theorem part10_spec (v24 : BitVec 32) {Q : _ → sProp 𝕄} :
    (iprop(env I K ∗ owing c [10, 8] ∗ owns (c : Thread nD τ) (tl A6 2 1) fullShare (part I c (half I (lft (lft c)) 1)) ∗ (opn 10 (dest 10 c) ∗ opn 8 (dest 8 c)) ∗ (fresh 10 c ∗ fresh 8 c) ∗ owns (c : Thread nD τ) xr fullShare (both I (rgt c)) ∗ (∃ Y, owns (c : Thread nD τ) (tl A6 1 1) fullShare Y) ∗ owns (c : Thread nD τ) A4 fullShare.right.right (both I c)) : sProp 𝕄)
    ⊢ iprop(((owing c [] ∗ (away 10 c ∗ away 8 c) ∗ owns (c : Thread nD τ) xr fullShare (both I (rgt c)) ∗ owns (c : Thread nD τ) A4 fullShare.right.right (both I c)) -∗ Q (t1 (half I c 1)))
      -∗ wp frame (wpE (defs₀ (F := F)) 𝒱₀ (c : Thread nD τ) none) Set.univ (k0_part10 A0 w0 A1 w1 A2 w2 A3 w3 A4 w4 A5 w5 A6 w6 A7 w7 cc0_scratch4 cc0_scratch5 c v24 (k0_pay3 (I.u c)) (k0_pay4 (I.v c))) Q) := by
  rw [k0_part10_eq_skeleton]; unfold k0_part10_skel
  simp only [Prog.lift, Prog.bind_op, Prog.bind_ret, Prog.pure_eq_ret]
  iintro ⟨#He, HO, Hs, ⟨Ho10, Ho8⟩, ⟨Hf10, Hf8⟩, Hx, Hw, Hz⟩ Hk
  iapply (send_step I K 10 c _ [8] (dev13_eq c) (src := tl A6 2 1) (dst := tl A7 2 1) (part I c (half I (lft (lft c)) 1)) (snd_eq 10) (rcv_eq 10) (cr_tl A7 2 1 10 (by decide))
    (BI.Entails.refl _) (by unfold got; exact BI.Entails.refl _) (BI.Entails.refl _)) $$ [$He $Hs $Ho10 $HO $Hf10]
  iintro ⟨Ha10, HO⟩
  iapply (ld_xr I c (rgt c) 1 fullShare) $$ Hx; iintro Hx
  iapply (st_tl c A6 1 1 _ (part I c (half I (rgt c) 1)) (pay13_eq I c _)) $$ Hw; iintro Hw
  iapply (send_step I K 8 c _ [] (dev14_eq c) (src := tl A6 1 1) (dst := tl A7 0 1) (part I c (half I (rgt c) 1)) (snd_eq 8) (rcv_eq 8) (cr_tl A7 0 1 8 (by decide))
    (BI.Entails.refl _) (by unfold got; exact BI.Entails.refl _) (BI.Entails.refl _)) $$ [$He $Hw $Ho8 $HO $Hf8]
  iintro ⟨Ha8, HO⟩
  iapply (ld_both I c 1 fullShare.right.right) $$ Hz; iintro Hz
  rw [wp_ret]; imodintro
  iapply Hk
  iframe HO Ha10 Ha8 Hx Hz

end Cert.RingMlp

end
-- ==== Proof.Parts3.lean ====
/-
  THE BODY's parts, second half: the parts of the result received and added up, and the waits for the device's own copies to be away.
-/
module

public import proofs.«01_k».proof.Proof.Parts2

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (I : Ins F) (K : Dev nD × CI → ℕ)

variable (c : Dev nD)

/-- The sums are the halves of the result. -/
theorem pay15_eq (j : Fin 2) : k0_pay15 (mlp I c (half I c j)) (t11 (part I (lft c) (half I (rgt (lft c)) j)))
    (t11 (part I (rgt c) (half I (lft (rgt c)) j))) (t11 (part I (opp c) (half I (lft (lft (opp c))) j))) = out I c j := by
  unfold k0_pay15; simp only [cast_t11]; rfl
theorem pay16_eq (j : Fin 2) : k0_pay16 (mlp I c (half I c j)) (t11 (part I (lft c) (half I (rgt (lft c)) j)))
    (t11 (part I (rgt c) (half I (lft (rgt c)) j))) (t11 (part I (opp c) (half I (lft (lft (opp c))) j))) = out I c j := pay15_eq I c j

/-- Half `j` of the result block, whatever it holds, read and then overwritten. -/
theorem st_out {α : Type} {Q : α → sProp 𝕄} (j : Fin 2) (w : FVec F S256x512 .f32) {hl : A3.view.LoadsAt (rh j).toLoadRect}
    {hx : (A3.access (rh j)).Stores Finset.univ} {hm}
    {k : PUnit → Prog (TpuEff nD τ sig (Elt F) Λ₀ .tc) α} :
    (iprop(∃ Y, owns (c : Thread nD τ) (A3.slice (rh j) (fun _ => rfl)) fullShare Y) : sProp 𝕄)
      ⊢ iprop((owns (c : Thread nD τ) (A3.slice (rh j) (fun _ => rfl)) fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.load A3 (rh j).toLoadRect hl) fun _ => .op (.store A3 (rh j) w Finset.univ hx hm) k) Q) := by
  iintro ⟨%Y, H⟩ Hk
  have h := wp_store_part c A3 (rh j) (fun _ => rfl) (hx := hx) (hm := hm) (k := k) (Q := Q) Y w
  unfold owns at h ⊢
  icases H with ⟨%f, %hf, H⟩
  iapply (wp_load_rect 𝒱₀ (c : Thread nD τ) none Set.univ (m := A3) (r := rh j) (S := (A3.slice (rh j) (fun _ => rfl)).view.set) (Finset.Subset.refl _)) $$ H
  iintro H
  iapply h $$ [H]
  · iexists f; isplitr; · ipureintro; exact hf
    iexact H
  iexact Hk

/-- Part 11: the two parts from the right neighbour arrive; the device's own part of its second half is worked out. -/
theorem part11_spec (v13 v24 : BitVec 32) {Q : _ → sProp 𝕄} :
    (iprop(env I K ∗ owing c [] ∗ due 5 c ∗ due 6 c) : sProp 𝕄)
    ⊢ iprop(((owing c [] ∗ semVal (rcvCell 5 c) 0 ∗ semVal (rcvCell 6 c) 0 ∗ owns (c : Thread nD τ) (tl A7 1 0) fullShare (part I (rgt c) (half I (lft (rgt c)) 0)) ∗ owns (c : Thread nD τ) (tl A7 1 1) fullShare (part I (rgt c) (half I (lft (rgt c)) 1))) -∗ Q (mlp I c (half I c 1)))
      -∗ wp frame (wpE (defs₀ (F := F)) 𝒱₀ (c : Thread nD τ) none) Set.univ (k0_part11 A0 w0 A1 w1 A2 w2 A3 w3 A4 w4 A5 w5 A6 w6 A7 w7 cc0_scratch4 cc0_scratch5 v13 v24 (k0_pay3 (I.u c)) (k0_pay4 (I.v c)) (t1 (half I c 1))) Q) := by
  rw [k0_part11_eq_skeleton]; unfold k0_part11_skel
  simp only [Prog.lift, Prog.bind_op, Prog.bind_ret, Prog.pure_eq_ret]
  iintro ⟨#He, HO, Hd5, Hd6⟩ Hk
  iapply (recv_at I K c 5 [] (by decide) (tl A7 1 0) (part I (rgt c) (half I (lft (rgt c)) 0)) (rcv_eq 5) (cr_tl A7 1 0 5 (by decide)) (fro_5 c) (by unfold got; rfl)) $$ [$He $HO $Hd5]
  iintro ⟨Hx, Hr5, HO⟩
  iapply (recv_at I K c 6 [] (by decide) (tl A7 1 1) (part I (rgt c) (half I (lft (rgt c)) 1)) (rcv_eq 6) (cr_tl A7 1 1 6 (by decide)) (fro_6 c) (by unfold got; rfl)) $$ [$He $HO $Hd6]
  iintro ⟨Hy, Hr6, HO⟩
  rw [pay14_eq]
  rw [wp_ret]; imodintro
  iapply Hk
  iframe HO Hr5 Hr6 Hx Hy

/-- Part 12: the two parts from the left neighbour and the first of the device opposite arrive. -/
theorem part12_spec (v13 v35 : BitVec 32) {Q : _ → sProp 𝕄} :
    (iprop(env I K ∗ owing c [] ∗ due 7 c ∗ due 8 c ∗ due 9 c) : sProp 𝕄)
    ⊢ iprop(((owing c [] ∗ semVal (rcvCell 7 c) 0 ∗ semVal (rcvCell 8 c) 0 ∗ semVal (rcvCell 9 c) 0 ∗ owns (c : Thread nD τ) (tl A7 0 0) fullShare (part I (lft c) (half I (rgt (lft c)) 0)) ∗ owns (c : Thread nD τ) (tl A7 0 1) fullShare (part I (lft c) (half I (rgt (lft c)) 1)) ∗ owns (c : Thread nD τ) (tl A7 2 0) fullShare (part I (opp c) (half I (lft (lft (opp c))) 0))) -∗ Q ⟨⟩)
      -∗ wp frame (wpE (defs₀ (F := F)) 𝒱₀ (c : Thread nD τ) none) Set.univ (k0_part12 A0 w0 A1 w1 A2 w2 A3 w3 A4 w4 A5 w5 A6 w6 A7 w7 cc0_scratch4 cc0_scratch5 v13 v35) Q) := by
  rw [k0_part12_eq_skeleton]; unfold k0_part12_skel
  simp only [Prog.lift, Prog.bind_op, Prog.bind_ret, Prog.pure_eq_ret]
  iintro ⟨#He, HO, Hd7, Hd8, Hd9⟩ Hk
  iapply (recv_at I K c 7 [] (by decide) (tl A7 0 0) (part I (lft c) (half I (rgt (lft c)) 0)) (rcv_eq 7) (cr_tl A7 0 0 7 (by decide)) (fro_7 c) (by unfold got; rfl)) $$ [$He $HO $Hd7]
  iintro ⟨Hx, Hr7, HO⟩
  iapply (recv_at I K c 8 [] (by decide) (tl A7 0 1) (part I (lft c) (half I (rgt (lft c)) 1)) (rcv_eq 8) (cr_tl A7 0 1 8 (by decide)) (fro_8 c) (by unfold got; rfl)) $$ [$He $HO $Hd8]
  iintro ⟨Hy, Hr8, HO⟩
  iapply (recv_at I K c 9 [] (by decide) (tl A7 2 0) (part I (opp c) (half I (lft (lft (opp c))) 0)) (rcv_eq 9) (cr_tl A7 2 0 9 (by decide)) (fro_9 c) (by unfold got; rfl)) $$ [$He $HO $Hd9]
  iintro ⟨Hz, Hr9, HO⟩
  rw [wp_ret]; imodintro
  iapply Hk
  iframe HO Hr7 Hr8 Hr9 Hx Hy Hz

/-- Part 13: the last part arrives; the first half of the result is added up and written, the second added up. -/
theorem part13_spec {Q : _ → sProp 𝕄} :
    (iprop(env I K ∗ owing c [] ∗ due 10 c ∗ owns (c : Thread nD τ) (tl A7 0 0) fullShare (part I (lft c) (half I (rgt (lft c)) 0)) ∗ owns (c : Thread nD τ) (tl A7 1 0) fullShare (part I (rgt c) (half I (lft (rgt c)) 0)) ∗ owns (c : Thread nD τ) (tl A7 2 0) fullShare (part I (opp c) (half I (lft (lft (opp c))) 0)) ∗ owns (c : Thread nD τ) (tl A7 0 1) fullShare (part I (lft c) (half I (rgt (lft c)) 1)) ∗ owns (c : Thread nD τ) (tl A7 1 1) fullShare (part I (rgt c) (half I (lft (rgt c)) 1)) ∗ (∃ Y, owns (c : Thread nD τ) (A3.slice (rh 0) (fun _ => rfl)) fullShare Y)) : sProp 𝕄)
    ⊢ iprop(((owing c [] ∗ semVal (rcvCell 10 c) 0 ∗ owns (c : Thread nD τ) (tl A7 0 0) fullShare (part I (lft c) (half I (rgt (lft c)) 0)) ∗ owns (c : Thread nD τ) (tl A7 1 0) fullShare (part I (rgt c) (half I (lft (rgt c)) 0)) ∗ owns (c : Thread nD τ) (tl A7 2 0) fullShare (part I (opp c) (half I (lft (lft (opp c))) 0)) ∗ owns (c : Thread nD τ) (tl A7 0 1) fullShare (part I (lft c) (half I (rgt (lft c)) 1)) ∗ owns (c : Thread nD τ) (tl A7 1 1) fullShare (part I (rgt c) (half I (lft (rgt c)) 1)) ∗ owns (c : Thread nD τ) (tl A7 2 1) fullShare (part I (opp c) (half I (lft (lft (opp c))) 1)) ∗ owns (c : Thread nD τ) (A3.slice (rh 0) (fun _ => rfl)) fullShare (out I c 0)) -∗ Q (out I c 1))
      -∗ wp frame (wpE (defs₀ (F := F)) 𝒱₀ (c : Thread nD τ) none) Set.univ (k0_part13 A0 w0 A1 w1 A2 w2 A3 w3 A4 w4 A5 w5 A6 w6 A7 w7 cc0_scratch4 cc0_scratch5 (mlp I c (half I c 0)) (mlp I c (half I c 1))) Q) := by
  rw [k0_part13_eq_skeleton]; unfold k0_part13_skel
  simp only [Prog.lift, Prog.bind_op, Prog.bind_ret, Prog.pure_eq_ret]
  iintro ⟨#He, HO, Hd10, H00, H10, H20, H01, H11, Ho⟩ Hk
  iapply (recv_at I K c 10 [] (by decide) (tl A7 2 1) (part I (opp c) (half I (lft (lft (opp c))) 1)) (rcv_eq 10) (cr_tl A7 2 1 10 (by decide)) (fro_10 c) (by unfold got; rfl)) $$ [$He $HO $Hd10]
  iintro ⟨H21, Hr10, HO⟩
  iapply (ld_tl c A7 0 0 fullShare (part I (lft c) (half I (rgt (lft c)) 0))) $$ H00; iintro H00
  iapply (ld_tl c A7 1 0 fullShare (part I (rgt c) (half I (lft (rgt c)) 0))) $$ H10; iintro H10
  iapply (ld_tl c A7 2 0 fullShare (part I (opp c) (half I (lft (lft (opp c))) 0))) $$ H20; iintro H20
  iapply (st_out c 0 _) $$ Ho; iintro Ho
  iapply (ld_tl c A7 0 1 fullShare (part I (lft c) (half I (rgt (lft c)) 1))) $$ H01; iintro H01
  iapply (ld_tl c A7 1 1 fullShare (part I (rgt c) (half I (lft (rgt c)) 1))) $$ H11; iintro H11
  iapply (ld_tl c A7 2 1 fullShare (part I (opp c) (half I (lft (lft (opp c))) 1))) $$ H21; iintro H21
  rw [pay15_eq, pay16_eq]
  rw [wp_ret]; imodintro
  iapply Hk
  iframe HO Hr10 H00 H10 H20 H01 H11 H21
  iexact Ho

/-- Part 14: the second half of the result is written; the first three copies are away. -/
theorem part14_spec {Q : _ → sProp 𝕄} :
    (iprop(env I K ∗ owing c [] ∗ (∃ Y, owns (c : Thread nD τ) (A3.slice (rh 1) (fun _ => rfl)) fullShare Y) ∗ away 0 c ∗ away 1 c ∗ away 2 c) : sProp 𝕄)
    ⊢ iprop(((owing c [] ∗ owns (c : Thread nD τ) (A3.slice (rh 1) (fun _ => rfl)) fullShare (out I c 1) ∗ lent I 0 c ∗ semVal (sndCell 0 c) 0 ∗ lent I 1 c ∗ semVal (sndCell 1 c) 0 ∗ lent I 2 c ∗ semVal (sndCell 2 c) 0) -∗ Q ⟨⟩)
      -∗ wp frame (wpE (defs₀ (F := F)) 𝒱₀ (c : Thread nD τ) none) Set.univ (k0_part14 A0 w0 A1 w1 A2 w2 A3 w3 A4 w4 A5 w5 A6 w6 A7 w7 cc0_scratch4 cc0_scratch5 (out I c 1)) Q) := by
  rw [k0_part14_eq_skeleton]; unfold k0_part14_skel
  simp only [Prog.lift, Prog.bind_op, Prog.bind_ret, Prog.pure_eq_ret]
  iintro ⟨#He, HO, Ho, Ha0, Ha1, Ha2⟩ Hk
  iapply (st_out c 1 _) $$ Ho; iintro Ho
  iapply (back_step I K 0 c (dst := xm 0) (snd_eq 0) (cr_xm 0 0 (by decide))) $$ [$He $HO $Ha0]
  iintro ⟨Hl0, Hs0, HO⟩
  iapply (back_step I K 1 c (dst := xm 1) (snd_eq 1) (cr_xm 1 1 (by decide))) $$ [$He $HO $Ha1]
  iintro ⟨Hl1, Hs1, HO⟩
  iapply (back_step I K 2 c (dst := A4) (snd_eq 2) cr_A4) $$ [$He $HO $Ha2]
  iintro ⟨Hl2, Hs2, HO⟩
  rw [wp_ret]; imodintro
  iapply Hk
  iframe HO Ho Hl0 Hs0 Hl1 Hs1 Hl2 Hs2

/-- Part 15: the next three copies are away. -/
theorem part15_spec {Q : _ → sProp 𝕄} :
    (iprop(env I K ∗ owing c [] ∗ away 3 c ∗ away 4 c ∗ away 5 c) : sProp 𝕄)
    ⊢ iprop(((owing c [] ∗ lent I 3 c ∗ semVal (sndCell 3 c) 0 ∗ lent I 4 c ∗ semVal (sndCell 4 c) 0 ∗ lent I 5 c ∗ semVal (sndCell 5 c) 0) -∗ Q ⟨⟩)
      -∗ wp frame (wpE (defs₀ (F := F)) 𝒱₀ (c : Thread nD τ) none) Set.univ (k0_part15 A0 w0 A1 w1 A2 w2 A3 w3 A4 w4 A5 w5 A6 w6 A7 w7 cc0_scratch4 cc0_scratch5) Q) := by
  rw [k0_part15_eq_skeleton]; unfold k0_part15_skel
  simp only [Prog.lift, Prog.bind_op, Prog.bind_ret, Prog.pure_eq_ret]
  iintro ⟨#He, HO, Ha3, Ha4, Ha5⟩ Hk
  iapply (back_step I K 3 c (dst := tl A5 0 0) (snd_eq 3) (cr_tl A5 0 0 3 (by decide))) $$ [$He $HO $Ha3]
  iintro ⟨Hl3, Hs3, HO⟩
  iapply (back_step I K 4 c (dst := tl A5 0 1) (snd_eq 4) (cr_tl A5 0 1 4 (by decide))) $$ [$He $HO $Ha4]
  iintro ⟨Hl4, Hs4, HO⟩
  iapply (back_step I K 5 c (dst := tl A6 0 0) (snd_eq 5) (cr_tl A6 0 0 5 (by decide))) $$ [$He $HO $Ha5]
  iintro ⟨Hl5, Hs5, HO⟩
  rw [wp_ret]; imodintro
  iapply Hk
  iframe HO Hl3 Hs3 Hl4 Hs4 Hl5 Hs5

/-- Part 16: the next four copies are away. -/
theorem part16_spec {Q : _ → sProp 𝕄} :
    (iprop(env I K ∗ owing c [] ∗ away 6 c ∗ away 7 c ∗ away 8 c ∗ away 9 c) : sProp 𝕄)
    ⊢ iprop(((owing c [] ∗ lent I 6 c ∗ semVal (sndCell 6 c) 0 ∗ lent I 7 c ∗ semVal (sndCell 7 c) 0 ∗ lent I 8 c ∗ semVal (sndCell 8 c) 0 ∗ lent I 9 c ∗ semVal (sndCell 9 c) 0) -∗ Q ⟨⟩)
      -∗ wp frame (wpE (defs₀ (F := F)) 𝒱₀ (c : Thread nD τ) none) Set.univ (k0_part16 A0 w0 A1 w1 A2 w2 A3 w3 A4 w4 A5 w5 A6 w6 A7 w7 cc0_scratch4 cc0_scratch5) Q) := by
  rw [k0_part16_eq_skeleton]; unfold k0_part16_skel
  simp only [Prog.lift, Prog.bind_op, Prog.bind_ret, Prog.pure_eq_ret]
  iintro ⟨#He, HO, Ha6, Ha7, Ha8, Ha9⟩ Hk
  iapply (back_step I K 6 c (dst := tl A6 0 1) (snd_eq 6) (cr_tl A6 0 1 6 (by decide))) $$ [$He $HO $Ha6]
  iintro ⟨Hl6, Hs6, HO⟩
  iapply (back_step I K 7 c (dst := tl A6 1 0) (snd_eq 7) (cr_tl A6 1 0 7 (by decide))) $$ [$He $HO $Ha7]
  iintro ⟨Hl7, Hs7, HO⟩
  iapply (back_step I K 8 c (dst := tl A6 1 1) (snd_eq 8) (cr_tl A6 1 1 8 (by decide))) $$ [$He $HO $Ha8]
  iintro ⟨Hl8, Hs8, HO⟩
  iapply (back_step I K 9 c (dst := tl A6 2 0) (snd_eq 9) (cr_tl A6 2 0 9 (by decide))) $$ [$He $HO $Ha9]
  iintro ⟨Hl9, Hs9, HO⟩
  rw [wp_ret]; imodintro
  iapply Hk
  iframe HO Hl6 Hs6 Hl7 Hs7 Hl8 Hs8 Hl9 Hs9

end Cert.RingMlp

end
-- ==== Proof.Body.lean ====
/-
  THE BODY: the parts in a row, from what a device holds at the start to the result block written, every copy away and every
  semaphore back at zero.
-/
module

public import proofs.«01_k».proof.Proof.Parts3

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (I : Ins F) (K : Dev nD × CI → ℕ)

variable (c : Dev nD)

/-- A statement for each slot, one after the other. -/
theorem slots (P : Fin 11 → sProp 𝕄) : bigSep Finset.univ P = iprop(P 0 ∗ P 1 ∗ P 2 ∗ P 3 ∗ P 4 ∗ P 5 ∗ P 6 ∗ P 7 ∗ P 8 ∗ P 9 ∗ P 10) := by
  rw [bigSep_univ_eq_bigSepL [0, 1, 2, 3, 4, 5, 6, 7, 8, 9, 10] (by decide) (by decide)]
  simp only [bigSepL_cons_cons, bigSepL_singleton]; rfl

theorem wp_seq {α β : Type} {Q : β → sProp 𝕄} {p : Prog (TpuEff nD τ sig (Elt F) Λ₀ .tc) α} {k : α → Prog (TpuEff nD τ sig (Elt F) Λ₀ .tc) β} :
    (wp frame (wpE (defs₀ (F := F)) 𝒱₀ (c : Thread nD τ) none) Set.univ p
        (fun a => wp frame (wpE (defs₀ (F := F)) 𝒱₀ (c : Thread nD τ) none) Set.univ (k a) Q) : sProp 𝕄)
      ⊢ wp frame (wpE (defs₀ (F := F)) 𝒱₀ (c : Thread nD τ) none) Set.univ (p >>= k) Q := by
  rw [wp_bind]

/-- What device `c` holds of the protocol when its body starts. -/
def start : sProp 𝕄 :=
  iprop(env I K ∗ (dutyTok ER (barCell (lft c)) 0 2 ∗ dutyTok ER (barCell (rgt c)) 0 0 ∗ dutyTok ER (barCell (opp c)) 0 1)
    ∗ cred (tallyAt (barCell c) () 3) ∗ atPos ER (barCell c) 0 ∅ 0
    ∗ (bigSep Finset.univ fun k => fresh k c) ∗ (bigSep Finset.univ fun k => due k c))

/-- Its four buffers, whatever they hold. -/
def scratch : sProp 𝕄 :=
  iprop((∃ X, owns (c : Thread nD τ) A4 fullShare X) ∗ (∃ X, owns (c : Thread nD τ) A5 fullShare X)
    ∗ (∃ X, owns (c : Thread nD τ) A6 fullShare X) ∗ (∃ X, owns (c : Thread nD τ) A7 fullShare X))

/-- Its semaphores at zero. -/
def zeros : sProp 𝕄 :=
  iprop(semVal (barCell c) 0 ∗ (bigSep Finset.univ fun k => semVal (sndCell k c) 0) ∗ (bigSep Finset.univ fun k => semVal (rcvCell k c) 0))

/-- A stack's six tiles, one after the other. -/
theorem six (P : Fin 3 × Fin 2 → sProp 𝕄) : bigSep Finset.univ P = iprop(P (0, 0) ∗ P (0, 1) ∗ P (1, 0) ∗ P (1, 1) ∗ P (2, 0) ∗ P (2, 1)) := cells6 P

/-- The places where the peers' copies land. -/
theorem opens : (iprop(tiles5 c ∗ tiles6 c A7) : sProp 𝕄)
    ⊢ iprop((opn 0 c ∗ opn 1 c ∗ opn 3 c ∗ opn 4 c ∗ opn 7 c ∗ opn 8 c) ∗ (opn 2 c ∗ opn 5 c ∗ opn 6 c) ∗ (opn 9 c ∗ opn 10 c)) := by
  unfold tiles5 tiles6 opn
  rw [six]
  iintro ⟨⟨H0, H1, H2, H3, H4⟩, ⟨H7, H8, H5, H6, H9, H10⟩⟩
  isplitl [H0 H1 H3 H4 H7 H8]
  · isplitl [H0]; · iexact H0
    isplitl [H1]; · iexact H1
    isplitl [H3]; · iexact H3
    isplitl [H4]; · iexact H4
    isplitl [H7]; · iexact H7
    iexact H8
  isplitl [H2 H5 H6]
  · isplitl [H2]; · iexact H2
    isplitl [H5]; · iexact H5
    iexact H6
  isplitl [H9]; · iexact H9
  iexact H10

/-- What the copies borrowed and what they brought make up the four buffers again. -/
theorem regather : (iprop((bigSep Finset.univ fun k => lent I k c) ∗ owns (c : Thread nD τ) A4 fullShare.right.right (both I c)
      ∗ (owns (c : Thread nD τ) (tl A5 0 0) fullShare.right (half I (lft c) 0) ∗ owns (c : Thread nD τ) (tl A5 0 1) fullShare.right (half I (lft c) 1))
      ∗ (got I 2 (rgt c) c ∗ got I 3 (lft c) c ∗ got I 4 (lft c) c) ∗ (got I 5 (rgt c) c ∗ got I 6 (rgt c) c)
      ∗ (got I 7 (lft c) c ∗ got I 8 (lft c) c) ∗ (got I 9 (opp c) c ∗ got I 10 (opp c) c)) : sProp 𝕄)
    ⊢ scratch c := by
  unfold got
  rw [slots]
  unfold lent scratch
  iintro ⟨⟨Hl0, Hl1, Hl2, Hl3, Hl4, Hl5, Hl6, Hl7, Hl8, Hl9, Hl10⟩, Hy, ⟨Hb0, Hb1⟩, ⟨Hb2, Hb3, Hb4⟩, ⟨Hp10, Hp11⟩, ⟨Hp00, Hp01⟩, ⟨Hp20, Hp21⟩⟩
  isplitl [Hl0 Hl1 Hl2 Hy]
  · ihave Hl := (close2 c fullShare.left I) $$ [$Hl0 $Hl1]
    ihave Hr := (owns_halves (c : Thread nD τ) A4 fullShare.right (both I c)).2 $$ [$Hl2 $Hy]
    ihave H := (owns_halves (c : Thread nD τ) A4 fullShare (both I c)).2 $$ [$Hl $Hr]
    iexists _; iexact H
  isplitl [Hl3 Hl4 Hb0 Hb1 Hb2 Hb3 Hb4]
  · ihave H0 := (owns_halves (c : Thread nD τ) (tl A5 0 0) fullShare (half I (lft c) 0)).2 $$ [$Hl3 $Hb0]
    ihave H1 := (owns_halves (c : Thread nD τ) (tl A5 0 1) fullShare (half I (lft c) 1)).2 $$ [$Hl4 $Hb1]
    iapply (close5 c)
    unfold tiles5
    isplitl [H0]; · iexists _; iexact H0
    isplitl [H1]; · iexists _; iexact H1
    isplitl [Hb2]; · iexists _; iexact Hb2
    isplitl [Hb3]; · iexists _; iexact Hb3
    iexists _; iexact Hb4
  isplitl [Hl5 Hl6 Hl7 Hl8 Hl9 Hl10]
  · iapply ((Entails.of_eq (six (fun p => iprop(∃ Y, owns (c : Thread nD τ) (tl A6 p.1 p.2) fullShare Y))).symm).trans (close6 c A6))
    isplitl [Hl5]; · iexists _; iexact Hl5
    isplitl [Hl6]; · iexists _; iexact Hl6
    isplitl [Hl7]; · iexists _; iexact Hl7
    isplitl [Hl8]; · iexists _; iexact Hl8
    isplitl [Hl9]; · iexists _; iexact Hl9
    iexists _; iexact Hl10
  · iapply ((Entails.of_eq (six (fun p => iprop(∃ Y, owns (c : Thread nD τ) (tl A7 p.1 p.2) fullShare Y))).symm).trans (close6 c A7))
    isplitl [Hp00]; · iexists _; iexact Hp00
    isplitl [Hp01]; · iexists _; iexact Hp01
    isplitl [Hp10]; · iexists _; iexact Hp10
    isplitl [Hp11]; · iexists _; iexact Hp11
    isplitl [Hp20]; · iexists _; iexact Hp20
    iexists _; iexact Hp21

/-- The body runs: from what the device holds at the start, with its three blocks in place, to its result block. -/
theorem sound_body (Kt : PUnit → sProp 𝕄) :
    (iprop(start I K c ∗ scratch c ∗ (∃ W, owes (c : Thread nD τ) (O₀ c) W)
        ∗ owns (c : Thread nD τ) A0 fullShare (I.x c) ∗ owns (c : Thread nD τ) A1 fullShare (I.u c) ∗ owns (c : Thread nD τ) A2 fullShare (I.v c)
        ∗ (∃ Y, owns (c : Thread nD τ) A3 fullShare Y)) : sProp 𝕄)
    ⊢ iprop((((zeros c ∗ scratch c) ∗ owing c []
          ∗ owns (c : Thread nD τ) A0 fullShare (I.x c) ∗ owns (c : Thread nD τ) A1 fullShare (I.u c) ∗ owns (c : Thread nD τ) A2 fullShare (I.v c)
          ∗ owns (c : Thread nD τ) A3 fullShare (res c I)) -∗ Kt ⟨⟩)
      -∗ wp frame (wpE (defs₀ (F := F)) 𝒱₀ (c : Thread nD τ) none) Set.univ
        (cc0_body A0 w0 A1 w1 A2 w2 A3 w3 A4 w4 A5 w5 A6 w6 A7 w7 cc0_scratch4 cc0_scratch5) Kt) := by
  rw [cc0_body_eq_skeleton]; unfold cc0_body_skel
  unfold start scratch zeros
  simp only [slots]
  iintro ⟨⟨#He, Htok, Hcb, Hab, ⟨Hf0, Hf1, Hf2, Hf3, Hf4, Hf5, Hf6, Hf7, Hf8, Hf9, Hf10⟩, ⟨Hd0, Hd1, Hd2, Hd3, Hd4, Hd5, Hd6, Hd7, Hd8, Hd9, Hd10⟩⟩, ⟨HA4, HA5, HA6, HA7⟩, HO, Hx, Hu, Hv, HA3⟩ Hk
  -- the buffers cut into their tiles
  ihave HA4 := (open2 c fullShare) $$ HA4
  ihave HA5 := (open5 c) $$ HA5
  ihave HA6 := ((open6 c A6).trans (Entails.of_eq (six _))) $$ HA6
  ihave HA7 := (open6 c A7) $$ HA7
  ihave Hop := (opens c) $$ [$HA5 $HA7]
  ihave HA3 := (openh c fullShare) $$ HA3
  icases HA4 with ⟨Hm0, Hm1⟩
  icases HA6 with ⟨Hs00, Hs01, Hs10, Hs11, Hs20, Hs21⟩
  icases Hop with ⟨HoR, HoL, HoO⟩
  icases HA3 with ⟨Hr0, Hr1⟩
  iapply (wp_seq c)
  iapply (part1_spec c); iintro %v13 %v24 %v35
  iapply (wp_seq c)
  iapply (part2_spec I K c v13 v24 v35) $$ [$He $HO $Htok $Hcb $Hab $HoR $HoL $HoO $Hx $Hm0 $Hm1]
  iintro ⟨HO, HzB, ⟨Ho0, Ho1, Ho3, Ho4, Ho7, Ho8⟩, ⟨Ho2, Ho5, Ho6⟩, ⟨Ho9, Ho10⟩, Hx, Hm0, Hm1⟩
  iapply (wp_seq c)
  iapply (part3_spec I K c v13 v24) $$ [$He $Hm0 $Hm1 $Ho0 $Ho1 $Ho2 $Hf0 $Hf1 $Hf2 $HO $Hu $Hv]
  iintro ⟨Hy, ⟨Ha0, Ha1, Ha2⟩, HO, Hu, Hv⟩
  iapply (wp_seq c)
  iapply (part4_spec I K c v13 v24) $$ [$He $HO $Hd0 $Ho3 $Hf3]
  iintro ⟨HO, Hz0, Ha3, Hb0⟩
  iapply (wp_seq c)
  iapply (part5_spec I K c v13) $$ [$He $HO $Hs00 $Ho5 $Hf5 $Hd1]
  iintro ⟨HO, Ha5, Hz1, Hb1⟩
  iapply (wp_seq c)
  iapply (part6_spec I K c v13 v24 _) $$ [$He $HO $Hb1 $Hs01 $Ho4 $Hf4]
  iintro ⟨HO, Ha4, Hb1, Hs01⟩
  iapply (wp_seq c)
  iapply (part7_spec I K c v13 v35) $$ [$He $HO $Hs01 $Ho6 $Hf6 $Hd3 $Hs20]
  iintro ⟨HO, Ha6, Hz3, Hb3, Hs20⟩
  iapply (wp_seq c)
  iapply (part8_spec I K c v24) $$ [$He $HO $Hs20 $Ho9 $Hf9 $Hd2 $Hs10]
  iintro ⟨HO, Ha9, Hz2, Hb2, Hs10⟩
  iapply (wp_seq c)
  iapply (part9_spec I K c v13 v35) $$ [$He $HO $Hs10 $Ho7 $Hf7 $Hd4 $Hs21]
  iintro ⟨HO, Ha7, Hz4, Hb4, Hs21⟩
  iapply (wp_seq c)
  iapply (part10_spec I K c v24) $$ [$He $HO $Hs21 $Ho10 $Ho8 $Hf10 $Hf8 $Hb2 $Hs11 $Hy]
  iintro ⟨HO, ⟨Ha10, Ha8⟩, Hb2, Hy⟩
  iapply (wp_seq c)
  iapply (part11_spec I K c v13 v24) $$ [$He $HO $Hd5 $Hd6]
  iintro ⟨HO, Hz5, Hz6, Hp10, Hp11⟩
  iapply (wp_seq c)
  iapply (part12_spec I K c v13 v35) $$ [$He $HO $Hd7 $Hd8 $Hd9]
  iintro ⟨HO, Hz7, Hz8, Hz9, Hp00, Hp01, Hp20⟩
  iapply (wp_seq c)
  iapply (part13_spec I K c) $$ [$He $HO $Hd10 $Hp00 $Hp10 $Hp20 $Hp01 $Hp11 $Hr0]
  iintro ⟨HO, Hz10, Hp00, Hp10, Hp20, Hp01, Hp11, Hp21, Hr0⟩
  iapply (wp_seq c)
  iapply (part14_spec I K c) $$ [$He $HO $Hr1 $Ha0 $Ha1 $Ha2]
  iintro ⟨HO, Hr1, Hl0, Hy0, Hl1, Hy1, Hl2, Hy2⟩
  iapply (wp_seq c)
  iapply (part15_spec I K c) $$ [$He $HO $Ha3 $Ha4 $Ha5]
  iintro ⟨HO, Hl3, Hy3, Hl4, Hy4, Hl5, Hy5⟩
  iapply (wp_seq c)
  iapply (part16_spec I K c) $$ [$He $HO $Ha6 $Ha7 $Ha8 $Ha9]
  iintro ⟨HO, Hl6, Hy6, Hl7, Hy7, Hl8, Hy8, Hl9, Hy9⟩
  iapply (wp_seq c)
  iapply (back_step I K 10 c (dst := tl A6 2 1) (snd_eq 10) (cr_tl A6 2 1 10 (by decide))) $$ [$He $HO $Ha10]
  iintro ⟨Hl10, Hy10, HO⟩
  rw [wp_ret]; imodintro
  rw [Prog.pure_eq_ret, wp_ret]; imodintro
  ihave HA3 := (closeh c fullShare I) $$ [$Hr0 $Hr1]
  ihave Hl := (Entails.of_eq (slots (fun k => lent I k c)).symm) $$ [$Hl0 $Hl1 $Hl2 $Hl3 $Hl4 $Hl5 $Hl6 $Hl7 $Hl8 $Hl9 $Hl10]
  ihave Hsc := (regather I c) $$ [Hl Hy Hb0 Hb1 Hb2 Hb3 Hb4 Hp00 Hp01 Hp10 Hp11 Hp20 Hp21]
  · unfold got; iframe Hl Hy Hb0 Hb1 Hb2 Hb3 Hb4 Hp00 Hp01 Hp10 Hp11 Hp20 Hp21
  iapply Hk
  unfold scratch
  iframe HzB Hsc HO Hx Hu Hv HA3 Hy0 Hy1 Hy2 Hy3 Hy4 Hy5 Hy6 Hy7 Hy8 Hy9 Hy10 Hz0 Hz1 Hz2 Hz3 Hz4 Hz5 Hz6 Hz7 Hz8 Hz9 Hz10

end Cert.RingMlp

end
-- ==== Proof.Data.lean ====
/-
  THE PIPELINE'S DATA: what the four windows hold, what a device holds before and after the one point, and the body's
  obligation from `sound_body`.
-/
module

public import proofs.«01_k».proof.Proof.Body

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Any contents, every counter at zero, any generator registers. -/
def σ₀ : MemSt nD τ sig (Elt F) := ⟨m, fun _ => 0, ρ⟩

/-- The blocks the devices' argument arrays hold, as the pipeline stages them. -/
def ins : Ins F where
  x c := (win0_0.blk (0 : Fin 1)).view.read (Elt F) ((σ₀ m ρ).mem ((c : Thread nD τ).loc main_arg0))
  u c := (win0_1.blk (0 : Fin 1)).view.read (Elt F) ((σ₀ m ρ).mem ((c : Thread nD τ).loc main_arg1))
  v c := (win0_2.blk (0 : Fin 1)).view.read (Elt F) ((σ₀ m ρ).mem ((c : Thread nD τ).loc main_arg2))

def tz : Fin cfg0.N := ⟨0, by rw [show cfg0.N = 1 from N_0]; decide⟩
theorem fin_N (t : Fin cfg0.N) : t = tz := fin_N0 t

def Φ₀ (c : Dev nD) : sProp 𝕄 := iprop((∃ K, start (ins m ρ) K c) ∗ scratch c)
def Φ₁ (c : Dev nD) : sProp 𝕄 := iprop(zeros c ∗ scratch c)

def dats (_ : Fin 1) (c : Dev nD) : Dat τ (Elt F) Unit ℕ UU ℕ cfg0 c where
  A w := (σ₀ m ρ).mem ((cfg0.win w).arr.view.loc (c : Thread nD τ))
  after w _ := match w with
    | ⟨0, _⟩ => (ins m ρ).x c
    | ⟨1, _⟩ => (ins m ρ).u c
    | ⟨2, _⟩ => (ins m ρ).v c
    | ⟨3, _⟩ => res c (ins m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- What the body starts from. -/
def bodyPre (c : Dev nD) : sProp 𝕄 :=
  iprop(Φ₀ m ρ c ∗ (dats m ρ 0 c).owesAt () tz.castSucc
    ∗ (∃ d, owns (c : Thread nD τ) A0 fullShare ((dats m ρ 0 c).before (0 : Fin 4) tz d))
    ∗ (∃ d, owns (c : Thread nD τ) A1 fullShare ((dats m ρ 0 c).before (1 : Fin 4) tz d))
    ∗ (∃ d, owns (c : Thread nD τ) A2 fullShare ((dats m ρ 0 c).before (2 : Fin 4) tz d))
    ∗ (∃ d, owns (c : Thread nD τ) A3 fullShare ((dats m ρ 0 c).before (3 : Fin 4) tz d)))
/-- What it ends in. -/
def bodyPost (c : Dev nD) : sProp 𝕄 :=
  iprop(Φ₁ c ∗ (dats m ρ 0 c).owesAt () tz.succ
    ∗ owns (c : Thread nD τ) A0 fullShare ((ins m ρ).x c) ∗ owns (c : Thread nD τ) A1 fullShare ((ins m ρ).u c)
    ∗ owns (c : Thread nD τ) A2 fullShare ((ins m ρ).v c) ∗ owns (c : Thread nD τ) A3 fullShare (res c (ins m ρ)))

theorem before_0 (c : Dev nD) (d) : (dats m ρ 0 c).before (0 : Fin 4) tz d = (ins m ρ).x c := by
  unfold Dat.before; rw [if_pos (fetch0_0 tz)]; rfl
theorem before_1 (c : Dev nD) (d) : (dats m ρ 0 c).before (1 : Fin 4) tz d = (ins m ρ).u c := by
  unfold Dat.before; rw [if_pos (fetch0_1 tz)]; rfl
theorem before_2 (c : Dev nD) (d) : (dats m ρ 0 c).before (2 : Fin 4) tz d = (ins m ρ).v c := by
  unfold Dat.before; rw [if_pos (fetch0_2 tz)]; rfl

set_option maxRecDepth 4000 in
theorem body_run (c : Dev nD) : bodyPre m ρ c ⊢ wp frame (wpE (defs₀ (F := F)) 𝒱₀ (c : Thread nD τ) none) Set.univ
    (cc0_body A0 (Memref.isWhole_whole _) A1 (Memref.isWhole_whole _) A2 (Memref.isWhole_whole _) A3 (Memref.isWhole_whole _)
      A4 (Memref.isWhole_whole _) A5 (Memref.isWhole_whole _) A6 (Memref.isWhole_whole _) A7 (Memref.isWhole_whole _) cc0_scratch4 cc0_scratch5)
    (fun _ => bodyPost m ρ c) := by
  unfold bodyPre Φ₀ Dat.owesAt Pipeline.owesWithin
  iintro ⟨⟨⟨%K, Hst⟩, Hscr⟩, ⟨%W, %hW, HO⟩, ⟨%d0, Hx⟩, ⟨%d1, Hu⟩, ⟨%d2, Hv⟩, ⟨%d3, Ho⟩⟩
  rw [before_0, before_1, before_2, show (dats m ρ 0 c).owed tz.castSucc = O₀ c from rfl]
  iapply (sound_body (ins m ρ) K c fun _ => bodyPost m ρ c) $$ [Hst Hscr HO Hx Hu Hv Ho]
  · isplitl [Hst]; · iexact Hst
    isplitl [Hscr]; · iexact Hscr
    isplitl [HO]; · iexists W; iexact HO
    isplitl [Hx]; · iexact Hx
    isplitl [Hu]; · iexact Hu
    isplitl [Hv]; · iexact Hv
    iexists _; iexact Ho
  unfold bodyPost Φ₁ owing Dat.owesAt Pipeline.owesWithin
  rw [show (dats m ρ 0 c).owed tz.succ = oweX c [] from rfl]
  iintro ⟨⟨Hz, Hscr⟩, ⟨%W', HO⟩, Hx, Hu, Hv, Ho⟩
  isplitl [Hz Hscr]
  · isplitl [Hz] <;> iassumption
  isplitl [HO]
  · iexists W'
    isplitr; · ipureintro; exact fun _ _ => Or.inl trivial
    iexact HO
  isplitl [Hx]; · iexact Hx
  isplitl [Hu]; · iexact Hu
  isplitl [Hv]; · iexact Hv
  iexact Ho

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W0, bigSep_W0]
  exact body_run m ρ c

end Cert.RingMlp

end
-- ==== Proof.Deal.lean ====
/-
  WHAT THE LAUNCH DEALS: the ghost state of every cell made at once, the duties' tokens dealt around the ring to the devices
  that pay them, the credit each device starts with.
-/
module

public import proofs.«01_k».proof.Proof.Data

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

/-! ## The cells and the tokens, listed -/

theorem csem_inj : Function.Injective csem := fun i j h => by
  have e := (cellIx_csem i).symm.trans ((congrArg cellIx h).trans (cellIx_csem j))
  exact Option.some.inj e

theorem kcell_inj : Function.Injective (kcell : Dev nD × CI → GSem nD τ sig) := by
  rintro ⟨c, i⟩ ⟨c', i'⟩ h
  have h1 : c = c' := congrArg (fun g : GSem nD τ sig => g.1.1) h
  have h2 : i = i' := csem_inj (congrArg (fun g : GSem nD τ sig => g.2) h)
  rw [h1, h2]

def ringCells : Finset (GSem nD τ sig) := Finset.univ.map ⟨kcell, kcell_inj⟩

/-- A device's cells' duties: three of its barrier cell, one of each send cell, one of each receive cell. -/
abbrev TI : Type := Fin 3 ⊕ (Fin 11 ⊕ Fin 11)
/-- The cell a duty is of, and its name. -/
def tix : TI → CI × Fin 3
  | .inl d => (.inl (), d)
  | .inr i => (.inr i, 0)
theorem tix_inj : Function.Injective tix := by
  rintro (d | i) (d' | i') h
  · exact congrArg Sum.inl (congrArg Prod.snd h)
  · exact absurd (congrArg Prod.fst h) (fun e => by cases e)
  · exact absurd (congrArg Prod.fst h) (fun e => by cases e)
  · exact congrArg Sum.inr (Sum.inr.inj (congrArg Prod.fst h))

def tokOf (ct : Dev nD × TI) : GSem nD τ sig × ℕ × Fin 3 := (kcell (ct.1, (tix ct.2).1), 0, (tix ct.2).2)
theorem tokOf_inj : Function.Injective tokOf := by
  rintro ⟨c, t⟩ ⟨c', t'⟩ h
  have h1 := kcell_inj (congrArg (fun x : GSem nD τ sig × ℕ × Fin 3 => x.1) h)
  have h2 : (tix t).2 = (tix t').2 := congrArg (fun x : GSem nD τ sig × ℕ × Fin 3 => x.2.2) h
  have h3 : t = t' := tix_inj (Prod.ext (congrArg Prod.snd h1) h2)
  rw [show c = c' from congrArg Prod.fst h1, h3]
def ringToks : Finset (GSem nD τ sig × ℕ × Fin 3) := Finset.univ.map ⟨tokOf, tokOf_inj⟩

/-- The launch's element: the pipeline's and the protocol's. -/
def u₀ : UU :=
  (initOf (Pipeline.cells cfgs cellOf_inj) (Pipeline.launchToks cfgs cellOf_inj), initOf ringCells ringToks)

/-! ## Minted per device -/

/-- The tokens of the duties of device `c`'s own cells. -/
def minted (c : Dev nD) : sProp 𝕄 :=
  bigSep Finset.univ fun t : TI => dutyTok ER (tokOf (c, t)).1 (tokOf (c, t)).2.1 (tokOf (c, t)).2.2
def places (c : Dev nD) : sProp 𝕄 := bigSep Finset.univ fun i : CI => atPos ER (kcell (c, i)) 0 ∅ 0
def states (c : Dev nD) : sProp 𝕄 := bigSep Finset.univ fun i : CI => roundState ER (rd I) (kcell (c, i)) 0
def marks (c : Dev nD) : sProp 𝕄 := bigSep Finset.univ fun i : CI => reached ER (kcell (c, i)) 0

/-- What the launch's element deals device `c`. -/
def G (c : Dev nD) : sProp 𝕄 := iprop(states I c ∗ marks c ∗ places c ∗ minted c)

theorem over_cells (P : GSem nD τ sig → sProp 𝕄) :
    bigSep ringCells P = bigSep Finset.univ fun c : Dev nD => bigSep Finset.univ fun i : CI => P (kcell (c, i)) := by
  unfold ringCells; rw [bigSep_map, bigSep_univ_prod]; rfl

theorem fund_ring : BI.own (ER (initOf ringCells ringToks)) ⊢ (|==> bigSep Finset.univ (G I) : sProp 𝕄) := by
  have e : iprop(bigSep ringCells (fun g => roundState ER (rd I) g 0) ∗ bigSep ringCells (fun g => reached ER g 0)
      ∗ bigSep ringCells (fun g => atPos ER g 0 ∅ 0) ∗ bigSep ringToks (fun x => dutyTok ER x.1 x.2.1 x.2.2))
      = (bigSep Finset.univ (G I) : sProp 𝕄) := by
    unfold G
    rw [bigSep_sep', bigSep_sep', bigSep_sep', over_cells, over_cells, over_cells]
    unfold ringToks
    rw [bigSep_map, bigSep_univ_prod]
    rfl
  iintro H
  imod (Rounds.fund ER (rd I) ringCells ringToks) $$ H with H
  imodintro
  iapply (Entails.of_eq e)
  iexact H

/-! ## The semaphores at zero -/

/-- The kernel's own semaphores: the send and the receive semaphores. -/
def osem (i : Fin 11 ⊕ Fin 11) : SemLoc sig := csem (.inr i)

theorem ownSemFacts : Pipeline.OwnSemFacts spec0 osem where
  isScoped := by decide
  inj := fun i j h => Sum.inr.inj (csem_inj h)
  disj := by decide

theorem ownSems0_eq (c : Dev nD) :
    (Pipeline.ownSems0 (Ix := Unit) (Name := ℕ) (U := UU) (Lvl := ℕ) (Val := Elt F) (τ := τ) osem c : sProp 𝕄)
      = iprop((bigSep Finset.univ fun k => semVal (sndCell k c) 0) ∗ (bigSep Finset.univ fun k => semVal (rcvCell k c) 0)) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A statement for each cell of a device: for its barrier cell, its send cells and its receive cells. -/
theorem over_CI (P : CI → sProp 𝕄) : bigSep Finset.univ P
    = iprop(P (.inl ()) ∗ (bigSep Finset.univ fun k => P (.inr (.inl k))) ∗ (bigSep Finset.univ fun k => P (.inr (.inr k)))) := by
  rw [bigSep_univ_sum, bigSep_univ_sum, bigSep_univ_of_subsingleton ()]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, over_CI]
  iintro ⟨⟨HS, HV⟩, HB⟩
  isplitl [HB]; · iexact HB
  isplitl [HS]; · iexact HS
  iexact HV

/-! ## Dealt around -/

def toLft : Dev nD ≃ Dev nD := ⟨lft, rgt, rgt_lft, lft_rgt⟩
def toOpp : Dev nD ≃ Dev nD := ⟨opp, opp, opp_opp, opp_opp⟩
def toDest (k : Fin 11) : Dev nD ≃ Dev nD := ⟨dest k, fro k, fro_dest k, dest_fro k⟩

/-- What device `c` keeps: the tokens of the duties it pays, its places. -/
def hold (c : Dev nD) : sProp 𝕄 :=
  iprop((dutyTok ER (barCell (lft c)) 0 2 ∗ dutyTok ER (barCell (rgt c)) 0 0 ∗ dutyTok ER (barCell (opp c)) 0 1)
    ∗ atPos ER (barCell c) 0 ∅ 0 ∗ (bigSep Finset.univ fun k => fresh k c) ∗ (bigSep Finset.univ fun k => atPos ER (rcvCell k c) 0 ∅ 0))

/-- Every receive cell's token goes to the device whose copy pays it. -/
theorem deal_rcv :
    (bigSep Finset.univ fun c : Dev nD => bigSep Finset.univ fun k : Fin 11 => (dutyTok ER (rcvCell k c) 0 0 : sProp 𝕄))
      = bigSep Finset.univ fun c : Dev nD => bigSep Finset.univ fun k : Fin 11 => dutyTok ER (rcvCell k (dest k c)) 0 0 := by
  rw [bigSep_univ_comm, bigSep_univ_comm (fun (c : Dev nD) (k : Fin 11) => (dutyTok ER (rcvCell k (dest k c)) 0 0 : sProp 𝕄))]
  exact bigSep_congr fun k _ => bigSep_univ_equiv (toDest k) _

theorem minted_eq (c : Dev nD) : (minted c : sProp 𝕄)
    = iprop((dutyTok ER (barCell c) 0 0 ∗ dutyTok ER (barCell c) 0 1 ∗ dutyTok ER (barCell c) 0 2)
      ∗ (bigSep Finset.univ fun k => dutyTok ER (sndCell k c) 0 0) ∗ (bigSep Finset.univ fun k => dutyTok ER (rcvCell k c) 0 0)) := by
  unfold minted
  rw [bigSep_univ_sum, bigSep_univ_sum, bigSep_univ_eq_bigSepL [(0 : Fin 3), 1, 2] (by decide) (by decide)]
  rfl

theorem fresh_eq (c : Dev nD) : (bigSep Finset.univ fun k => (fresh k c : sProp 𝕄))
    = iprop((bigSep Finset.univ fun k => dutyTok ER (sndCell k c) 0 0) ∗ (bigSep Finset.univ fun k => dutyTok ER (rcvCell k (dest k c)) 0 0)
      ∗ (bigSep Finset.univ fun k => atPos ER (sndCell k c) 0 ∅ 0)) := by
  unfold fresh; rw [bigSep_sep', bigSep_sep']

theorem deal : iprop((bigSep Finset.univ fun c : Dev nD => places c) ∗ (bigSep Finset.univ fun c : Dev nD => minted c))
    ⊢ (bigSep Finset.univ fun c : Dev nD => hold c : sProp 𝕄) := by
  unfold hold places
  simp only [minted_eq, fresh_eq, over_CI, bigSep_sep']
  rw [deal_rcv, bigSep_univ_equiv toLft (fun c : Dev nD => (dutyTok ER (barCell c) 0 2 : sProp 𝕄)),
    bigSep_univ_equiv toLft.symm (fun c : Dev nD => (dutyTok ER (barCell c) 0 0 : sProp 𝕄)),
    bigSep_univ_equiv toOpp (fun c : Dev nD => (dutyTok ER (barCell c) 0 1 : sProp 𝕄))]
  iintro ⟨⟨HB, HS, HV⟩, ⟨T0, T1, T2⟩, TS, TV⟩
  isplitl [T0 T1 T2]
  · isplitl [T2]; · iexact T2
    isplitl [T0]; · iexact T0
    iexact T1
  isplitl [HB]; · iexact HB
  isplitl [TS TV HS]
  · isplitl [TS]; · iexact TS
    isplitl [TV]; · iexact TV
    iexact HS
  iexact HV

/-! ## The cells' invariants, for every device at once -/

/-- What the global step leaves device `c`. -/
def G' (c : Dev nD) : sProp 𝕄 := iprop(∃ K, records I K ∗ hold c)

theorem alloc (c : Dev nD) : iprop((bigSep Finset.univ fun i : CI => semVal (kcell (c, i)) 0) ∗ states I c)
    ⊢ (|={Set.univ}=> bigSep Finset.univ fun i : CI => iprop(∃ κ : ℕ, cellInv ER (rd I) κ (kcell (c, i))) : sProp 𝕄) := by
  unfold states
  rw [← bigSep_sep']
  exact (bigSep_mono fun i _ => (Rounds.body_intro ER (rd I) (kcell (c, i))).trans inv_alloc).trans (bigSep_fupd _ _)

theorem share_out : iprop((bigSep Finset.univ fun c : Dev nD => bigSep Finset.univ fun i : CI => iprop(∃ κ : ℕ, cellInv ER (rd I) κ (kcell (c, i))))
      ∗ (bigSep Finset.univ fun c : Dev nD => marks c) ∗ (bigSep Finset.univ fun c : Dev nD => places c) ∗ (bigSep Finset.univ fun c : Dev nD => minted c))
    ⊢ (bigSep Finset.univ (G' I) : sProp 𝕄) := by
  unfold marks
  rw [← bigSep_univ_prod (fun ck : Dev nD × CI => iprop(∃ κ : ℕ, cellInv ER (rd I) κ (kcell ck))),
    ← bigSep_univ_prod (fun ck : Dev nD × CI => (reached ER (kcell ck) 0 : sProp 𝕄))]
  iintro ⟨HI, #HR, HP, HT⟩
  ihave HK := (BI.bigSep_exists_pi Finset.univ (fun (ck : Dev nD × CI) (κ : ℕ) => (cellInv ER (rd I) κ (kcell ck) : sProp 𝕄))) $$ HI
  icases HK with ⟨%K, #HI⟩
  ihave HH := (deal (F := F)) $$ [HP HT]
  · isplitl [HP] <;> iassumption
  have hp : iprop(records I K ∗ bigSep Finset.univ fun c : Dev nD => hold c) ⊢ (bigSep Finset.univ (G' I) : sProp 𝕄) := by
    refine (sep_mono_left (BI.bigSep_of_persistent (Finset.univ : Finset (Dev nD)) (records I K))).trans ?_
    rw [← bigSep_sep']
    refine bigSep_mono fun c _ => ?_
    show (iprop(records I K ∗ hold c) : sProp 𝕄) ⊢ iprop(∃ K, records I K ∗ hold c)
    iintro H
    iexists K
    iexact H
  iapply hp
  isplitr
  · unfold records
    isplitl
    · iexact HI
    · iexact HR
  · iexact HH

theorem glob : (bigSep Finset.univ fun c => iprop(Pipeline.ownSems0 (Ix := Unit) (Name := ℕ) (U := UU) (Lvl := ℕ) (Val := Elt F) (τ := τ) osem c
      ∗ unscopedSems0 c ∗ G I c) : sProp 𝕄) ⊢ |={Set.univ}=> bigSep Finset.univ (G' I) := by
  have h1 (c : Dev nD) : iprop(Pipeline.ownSems0 (Ix := Unit) (Name := ℕ) (U := UU) (Lvl := ℕ) (Val := Elt F) (τ := τ) osem c ∗ unscopedSems0 c ∗ G I c)
      ⊢ (|={Set.univ}=> iprop((bigSep Finset.univ fun i : CI => iprop(∃ κ : ℕ, cellInv ER (rd I) κ (kcell (c, i)))) ∗ marks c ∗ places c ∗ minted c) : sProp 𝕄) := by
    unfold G
    iintro ⟨Ho, Hu, Hs, Hm, Hp, Ht⟩
    ihave Hv := (sems0 (F := F) c) $$ [Ho Hu]
    · isplitl [Ho] <;> iassumption
    imod (alloc I c) $$ [Hv Hs] with HI
    · isplitl [Hv] <;> iassumption
    imodintro
    isplitl [HI]; · iexact HI
    isplitl [Hm]; · iexact Hm
    isplitl [Hp]; · iexact Hp
    iexact Ht
  have h2 : (bigSep Finset.univ fun c : Dev nD => iprop((bigSep Finset.univ fun i : CI => iprop(∃ κ : ℕ, cellInv ER (rd I) κ (kcell (c, i))))
      ∗ marks c ∗ places c ∗ minted c) : sProp 𝕄) ⊢ bigSep Finset.univ (G' I) := by
    rw [bigSep_sep', bigSep_sep', bigSep_sep']
    exact share_out I
  exact ((bigSep_mono fun c _ => h1 c).trans (bigSep_fupd _ _)).trans (BI.fupd_mono h2)

/-! ## The credit -/

theorem cell_dev {a b : Dev nD} {s t : SemLoc sig} (h : (((a : Thread nD τ), s) : GSem nD τ sig) = ((b : Thread nD τ), t)) : a = b :=
  congrArg (fun g : GSem nD τ sig => g.1.1) h

theorem rcv_ne_bar (k : Fin 11) (a b : Dev nD) : rcvCell k a ≠ barCell b := fun h => by
  have := (ix_rcv k a).symm.trans ((congrArg (fun g : GSem nD τ sig => cellIx g.2) h).trans (ix_bar b))
  cases this
theorem rcv_slot {k l : Fin 11} {a b : Dev nD} (h : rcvCell k a = rcvCell l b) : k = l := by
  have := (ix_rcv k a).symm.trans ((congrArg (fun g : GSem nD τ sig => cellIx g.2) h).trans (ix_rcv l b))
  exact Sum.inr.inj (Sum.inr.inj (Option.some.inj this))

theorem oweX_bar (d c : Dev nD) (l : List (Fin 11)) : oweX d l (barCell c) () = 0 := by
  induction l with
  | nil => rfl
  | cons k l ih =>
    unfold oweX
    rw [Pi.add_apply, Finsupp.add_apply, ih, tallyAt_apply, if_neg fun h => rcv_ne_bar _ _ _ h.1.symm]
theorem oweX_rcv (d c : Dev nD) (k : Fin 11) (l : List (Fin 11)) (hl : l.Nodup) :
    oweX d l (rcvCell k c) () = if k ∈ l ∧ d = fro k c then cr k else 0 := by
  induction l with
  | nil => rw [if_neg fun h => (List.not_mem_nil h.1)]; rfl
  | cons j l ih =>
    unfold oweX
    rw [Pi.add_apply, Finsupp.add_apply, ih hl.of_cons, tallyAt_apply]
    by_cases hj : k = j
    · subst hj
      rw [if_neg fun h => (List.nodup_cons.mp hl).1 h.1, Nat.zero_add]
      by_cases hd : d = fro k c
      · rw [if_pos ⟨by rw [hd, dest_fro], rfl⟩, if_pos ⟨List.mem_cons_self, hd⟩]
      · rw [if_neg fun h => hd (by rw [cell_dev h.1, fro_dest]), if_neg fun h => hd h.2]
    · rw [if_neg (c := rcvCell k c = _ ∧ _) fun h => hj (rcv_slot h.1), Nat.add_zero]
      by_cases hk : k ∈ l ∧ d = fro k c
      · rw [if_pos hk, if_pos ⟨List.mem_cons_of_mem _ hk.1, hk.2⟩]
      · rw [if_neg hk, if_neg fun h => hk ⟨(List.mem_cons.mp h.1).resolve_left hj, h.2⟩]

theorem owed_rcv (d c : Dev nD) (k : Fin 11) : O₀ d (rcvCell k c) () = if d = fro k c then cr k else 0 := by
  unfold O₀
  rw [Pi.add_apply, Finsupp.add_apply, Pi.add_apply, Finsupp.add_apply, Pi.add_apply, Finsupp.add_apply,
    tallyAt_ne_cell (rcv_ne_bar _ _ _), tallyAt_ne_cell (rcv_ne_bar _ _ _), tallyAt_ne_cell (rcv_ne_bar _ _ _), oweX_rcv d c k ord (by decide)]
  have hk : k ∈ ord := by revert k; decide
  simp only [hk, true_and, Finsupp.zero_apply, Nat.add_zero]

theorem owed_bar (d c : Dev nD) : O₀ d (barCell c) () = (if d = opp c then 1 else 0) + (if d = lft c then 1 else 0) + (if d = rgt c then 1 else 0) := by
  unfold O₀
  rw [Pi.add_apply, Finsupp.add_apply, Pi.add_apply, Finsupp.add_apply, Pi.add_apply, Finsupp.add_apply, oweX_bar, tallyAt_apply, tallyAt_apply,
    tallyAt_apply, Nat.zero_add]
  have ho : barCell c = barCell (opp d) ↔ d = opp c :=
    ⟨fun h => by rw [cell_dev h, opp_opp], fun h => by rw [h, opp_opp]⟩
  have hr : barCell c = barCell (rgt d) ↔ d = lft c :=
    ⟨fun h => by rw [cell_dev h, lft_rgt], fun h => by rw [h, rgt_lft]⟩
  have hl : barCell c = barCell (lft d) ↔ d = rgt c :=
    ⟨fun h => by rw [cell_dev h, rgt_lft], fun h => by rw [h, lft_rgt]⟩
  simp only [ho, hr, hl, and_true]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, Finset.sum_ite_eq', Finset.sum_ite_eq', Finset.sum_ite_eq']
  simp only [Finset.mem_univ, if_true]
theorem launch_rcv (k : Fin 11) (c : Dev nD) :
    tallyOn (rcvCell k c) (launchCredit (Pipeline.owing O₀) 0 (rcvCell k c)) = (tallyAt (rcvCell k c) () (cr k) : CellTallies nD τ sig Unit) := by
  unfold tallyAt; refine congrArg _ (Finsupp.ext fun u => ?_); cases u
  rw [Pipeline.launchCredit_owing, Finsupp.single_eq_same, Finset.sum_congr rfl fun d _ => owed_rcv d c k, Finset.sum_ite_eq',
    if_pos (Finset.mem_univ _)]

/-- The credit of a device's barrier cell and of its receive cells. -/
theorem creds (c : Dev nD) : (Pipeline.launchCred O₀ c : sProp 𝕄)
    ⊢ iprop(cred (tallyAt (barCell c) () 3) ∗ (bigSep Finset.univ fun k => cred (tallyAt (rcvCell k c) () (cr k)))) := by
  unfold Pipeline.launchCred
  refine (bigSep_subset (Finset.subset_univ (Finset.univ.map ⟨csem, csem_inj⟩))).trans ?_
  rw [bigSep_map, over_CI]
  refine sep_mono (Entails.of_eq (congrArg cred (launch_bar c))) (sep_elim_right.trans ?_)
  exact bigSep_mono fun k _ => Entails.of_eq (congrArg cred (launch_rcv k c))

end Cert.RingMlp

end
-- ==== Proof.Run.lean ====
/-
  THE RUN: the launch's side conditions and the run of the whole program, with what every array then holds.
-/
module

public import proofs.«01_k».proof.Proof.Deal
public import Idealize.ShloMosaic.Lib.Pipeline.ValueKit.Geometry
public import Idealize.ShloMosaic.Lib.Quiescent
public import Idealize.ShloMosaic.Lib.Pipeline.CollectiveSegs

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Owning a whole buffer at some contents, both ways of saying it. -/
theorem any_owns (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  unfold owns
  simp only [Memref.view_whole, View.read_whole, View.set_whole]
  iintro ⟨%f, H⟩
  iexists f
  iexists f
  isplitr; · (ipureintro; rfl)
  iexact H
theorem owns_any (c : Dev nD) (b : Ref sig .tc) :
    (iprop(∃ X, owns (c : Thread nD τ) (Memref.whole b) fullShare X) : sProp 𝕄)
      ⊢ iprop(∃ f : Buf (Elt F) ((c : Thread nD τ).loc b), ((c : Thread nD τ).loc b) ↦{fullShare} f) := by
  unfold owns
  simp only [Memref.view_whole, View.read_whole, View.set_whole]
  iintro ⟨%X, %f, -, H⟩
  iexists f
  iexact H

theorem rest_in (c : Dev nD) : (Pipeline.scopedRest (Ix := Unit) (Name := ℕ) (U := UU) (Lvl := ℕ) (Val := Elt F) spec0 c : sProp 𝕄) ⊢ scratch c := by
  rw [scopedRest0_eq]
  exact BI.sep_mono (any_owns c cc0_scratch0) (BI.sep_mono (any_owns c cc0_scratch1) (BI.sep_mono (any_owns c cc0_scratch2) (any_owns c cc0_scratch3)))
theorem rest_out (c : Dev nD) : (scratch c : sProp 𝕄) ⊢ Pipeline.scopedRest (Ix := Unit) (Name := ℕ) (U := UU) (Lvl := ℕ) (Val := Elt F) spec0 c := by
  rw [scopedRest0_eq]
  exact BI.sep_mono (owns_any c cc0_scratch0) (BI.sep_mono (owns_any c cc0_scratch1) (BI.sep_mono (owns_any c cc0_scratch2) (owns_any c cc0_scratch3)))

/-- What device `c` starts from. -/
def begin (c : Dev nD) : sProp 𝕄 := iprop(∃ K, start (ins m ρ) K c)

theorem begin_intro (c : Dev nD) :
    iprop(Pipeline.unscopedRestP Pipeline.Prefetch.none spec0 c (fun b => m ((c : Thread nD τ).loc b)) ∗ levAts L lv
        ∗ Pipeline.launchCred O₀ c ∗ prngReg c (ρ c) ∗ G' (ins m ρ) c)
      ⊢ |={Set.univ}=> iprop(begin m ρ c ∗ emp) := by
  unfold G' hold begin start env due
  rw [bigSep_sep']
  iintro ⟨-, Hlev, Hcr, -, ⟨%K, Hrec, HT, HaB, Hf, HaV⟩⟩
  ihave Hc := (creds (F := F) c) $$ Hcr
  icases Hc with ⟨HcB, HcV⟩
  imodintro
  isplitl
  · iexists K
    isplitl [Hrec Hlev]
    · isplitl [Hrec] <;> iassumption
    isplitl [HT]; · iexact HT
    isplitl [HcB]; · iexact HcB
    isplitl [HaB]; · iexact HaB
    isplitl [Hf]; · iexact Hf
    isplitl [HcV] <;> iassumption
  · iempintro

theorem phi0_intro (c : Dev nD) :
    iprop(begin m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀ begin
  iintro ⟨Hs, -, Hr⟩
  isplitl [Hs]; · iexact Hs
  iapply (rest_in (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁ zeros
  iintro ⟨⟨HB, HS, HV⟩, Hr⟩
  isplitl [HB]; · iexact HB
  isplitl [HS HV]
  · isplitl [HS] <;> iassumption
  iapply (rest_out (F := F) c); iexact Hr

theorem lv_stage (c : Dev nD) (q : DmaSem sig) (h : q.val < 4) : lv ((c : Thread nD τ), .dma q) () = 0 := by
  have e : cellIx (.dma q : SemLoc sig) = none := by
    dsimp only [cellIx]; rw [dif_neg (by omega), dif_neg (by omega)]
  unfold lv; dsimp only; rw [e]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_0 c _ (lv_stage c _ (by fin_cases w <;> fin_cases s <;> decide))
    · show (levAts L lv : sProp 𝕄) ⊢ MayWait (c : Thread nD τ) _ () 0
      rw [MayWait_zero]; iintro -; iempintro

theorem share_eq (c : Dev nD) (w : Fin cfg0.W) : (dats m ρ 0 c).share w = fullShare :=
  (dats m ρ 0 c).share_full (fun _ => rfl) w

/-! ## The run -/

/-- What window `w`'s array holds on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the four devices terminates, and
    every final state has each array at the computed contents and every counter at zero. -/
theorem run_main : θ_run defs (onTc (τ := τ) (main (F := F))) (σ₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m ρ)) (G' := G' (ins m ρ)) (u₀ := u₀)
    (hu₀ := by
      unfold u₀
      iintro Hu
      ihave H := (ownU_pair _ _) $$ Hu
      icases H with ⟨HP, HX⟩
      imod (fund_ring (ins m ρ)) $$ HX with HG
      imodintro
      isplitl [HP] <;> iassumption)
    (hglob := glob (ins m ρ))
    (hA := fun _ _ => rfl) (hpf := fun _ k => k.elim0)
    (X := begin m ρ) (Y := fun c => unscopedSems0 c) (Z := fun _ => iprop(emp))
    (hX := begin_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

/-- The three argument arrays are as they were. -/
theorem final_0 (c : Dev nD) : finalA m ρ c (0 : Fin 4) = m ((c : Thread nD τ).loc main_arg0) := (dats m ρ 0 c).arrAt_in (0 : Fin 4) rfl _
theorem final_1 (c : Dev nD) : finalA m ρ c (1 : Fin 4) = m ((c : Thread nD τ).loc main_arg1) := (dats m ρ 0 c).arrAt_in (1 : Fin 4) rfl _
theorem final_2 (c : Dev nD) : finalA m ρ c (2 : Fin 4) = m ((c : Thread nD τ).loc main_arg2) := (dats m ρ 0 c).arrAt_in (2 : Fin 4) rfl _
/-- The result array is the device's result block. -/
theorem final_3 (c : Dev nD) : finalA m ρ c (3 : Fin 4) = res c (ins m ρ) :=
  (dats m ρ 0 c).arrAt_eq_of_after_last (3 : Fin 4) tz (by decide +kernel) _ (fun j => rfl)

/-- The blocks are the argument arrays. -/
theorem ins_x (c : Dev nD) : (ins m ρ).x c = m ((c : Thread nD τ).loc main_arg0) := by
  have h := Memref.read_access_unit_zero (Elt F) main_arg0
    (show (fun a => (win0_0.index (0 : Fin 1)) a * main_arg0.ty.shape.size a) = fun _ => 0 from funext fun a => by fin_cases a <;> decide)
    (fun a => by fin_cases a <;> decide) (m ((c : Thread nD τ).loc main_arg0))
  exact h
theorem ins_u (c : Dev nD) : (ins m ρ).u c = m ((c : Thread nD τ).loc main_arg1) := by
  have h := Memref.read_access_unit_zero (Elt F) main_arg1
    (show (fun a => (win0_1.index (0 : Fin 1)) a * main_arg1.ty.shape.size a) = fun _ => 0 from funext fun a => by fin_cases a <;> decide)
    (fun a => by fin_cases a <;> decide) (m ((c : Thread nD τ).loc main_arg1))
  exact h
theorem ins_v (c : Dev nD) : (ins m ρ).v c = m ((c : Thread nD τ).loc main_arg2) := by
  have h := Memref.read_access_unit_zero (Elt F) main_arg2
    (show (fun a => (win0_2.index (0 : Fin 1)) a * main_arg2.ty.shape.size a) = fun _ => 0 from funext fun a => by fin_cases a <;> decide)
    (fun a => by fin_cases a <;> decide) (m ((c : Thread nD τ).loc main_arg2))
  exact h

/-- The devices' blocks, from the memory. -/
def blocks : Ins F where
  x c := m ((c : Thread nD τ).loc main_arg0)
  u c := m ((c : Thread nD τ).loc main_arg1)
  v c := m ((c : Thread nD τ).loc main_arg2)
theorem ins_eq : ins m ρ = blocks m := by
  show Ins.mk (ins m ρ).x (ins m ρ).u (ins m ρ).v = _
  rw [show (ins m ρ).x = _ from funext (ins_x m ρ), show (ins m ρ).u = _ from funext (ins_u m ρ), show (ins m ρ).v = _ from funext (ins_v m ρ)]
  rfl

/-- The run read buffer by buffer. -/
theorem run_read : θ_run defs (onTc (τ := τ) (main (F := F))) ⟨m, fun _ => 0, ρ⟩ (fun r =>
    (∀ c : Dev nD, r.2.mem ((c : Thread nD τ).loc main_v1) = res c (blocks m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c => ⟨((h.1 c (3 : Fin 4)).trans (final_3 m ρ c)).trans (by rw [ins_eq]),
    (h.1 c (0 : Fin 4)).trans (final_0 m ρ c), (h.1 c (1 : Fin 4)).trans (final_1 m ρ c), (h.1 c (2 : Fin 4)).trans (final_2 m ρ c)⟩, h.2⟩)
    (run_main m ρ)

end Cert.RingMlp

end
-- ==== Proof.Frames.lean ====
/-
  THE FRAME CLAIMS: every run ends, the arguments unchanged, every counter at zero. The kernel's from its run; its bits' text is
  the ideal text under another name, so the same run serves; the references' from their runs, which name no semaphore.
-/
module

public import proofs.«01_k».proof.Defs
public import proofs.«01_k».proof.Proof.Gen.Kernel
public import proofs.«01_k».proof.Proof.Gen.Pre_small_KernelIdeal
public import proofs.«01_k».proof.Proof.Gen.Pre_small_ReferenceIdeal
public import proofs.«01_k».proof.Proof.Gen.ReferenceIdeal.Run
public import proofs.«01_k».proof.Proof.Gen.PlainReferenceIdeal.Run
public import proofs.«01_k».proof.Proof.Run
public import Idealize.ShloMosaic.Lib.Quiescent
public import Idealize.ShloMosaic.Lib.Tactic

@[expose] public section

noncomputable section

namespace Cert.Proof

open Idealize.ShloMosaic Idealize.SL.Sem

attribute [local instance] Cert.Kernel.Gen.facts Cert.KernelIdeal.Gen.facts Cert.ReferenceIdeal.Gen.facts Cert.PlainReferenceIdeal.Gen.facts
  Cert.Pre_small_KernelIdeal.Gen.facts Cert.Pre_small_ReferenceIdeal.Gen.facts

/-- The idealized kernel's frame. -/
theorem frame_ideal : Cert.quiescent_KernelIdeal := fun m ρ _ =>
  (θ_run Cert.KernelIdeal.defs _ _).mono (fun _ h => ⟨fun c => (h.1 c).2, h.2⟩) (Cert.RingMlp.run_read (F := Ideal) m ρ)

/-- The frame at the bits, of the same text under its other name. -/
def frameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem frame_bits : frameBits := fun m g _ =>
  (θ_run Cert.KernelIdeal.defs _ _).mono (fun _ h => ⟨fun c => (h.1 c).2, h.2⟩) (Cert.RingMlp.run_read (F := Bits) m g)

/-- The two texts are one. -/
theorem same : frameBits = Cert.quiescent_Kernel := by
  sl_kernel_rfl

theorem frame_kernel : Cert.quiescent_Kernel := same.mp frame_bits

/-- The same under the precondition, which the frame does not need. -/
theorem frame_ideal_small : Cert.quiescent_KernelIdeal_pre_small_KernelIdeal := fun m g _ => frame_ideal m g trivial

/-- The reference's frame. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
theorem frame_reference_small : Cert.quiescent_ReferenceIdeal_pre_small_ReferenceIdeal := fun m g _ => frame_reference m g trivial

/-- The reference's without the clip. -/
theorem frame_plain : Cert.quiescent_PlainReferenceIdeal := fun m g _ =>
  (θ_run Cert.PlainReferenceIdeal.defs _ _).mono (fun r h => ⟨fun c => (h c).2, sem_eq_zero_of_no_sems (by decide) r.2⟩)
    (Cert.PlainReferenceIdeal.Value.run (F := Ideal) m g)

end Cert.Proof

end
-- ==== Proof.Value.lean ====
/-
  WHAT THE KERNEL COMPUTES, over the extended reals: element `(r, n)` of the result is the sum over the 8192 hidden columns of
  the gated pre-activation times `W2`. Device `c` holds 2048 of the columns, so the sum falls into four, one per device, and the
  kernel adds those up in the order own, left, right, opposite.
-/
module

public import proofs.«01_k».proof.Proof.Run
public import Idealize.ShloMosaic.Lib.MatmulPlain
public import Idealize.ShloMosaic.Lib.IdealHost
public import Idealize.ShloMosaic.Lib.StackMember
public import Idealize.ShloMosaic.Lib.Layout

@[expose] public section

noncomputable section

namespace Cert.RingMlp

open Cert.KernelIdeal Cert.KernelIdeal.Gen
open Idealize.ShloMosaic Idealize.ShloMosaic.ValueIdx
open scoped BigOperators

/-! ## The specification -/

/-- `x` through the logistic gate of `y`. -/
def gate (x y : EReal) : EReal := Ideal.div x (1 + Ideal.exp (-y))

/-- The exponential is not negative. -/
theorem exp_nonneg (x : EReal) : 0 ≤ Ideal.exp x := by
  induction x using EReal.rec with
  | bot => exact le_refl _
  | top => exact le_top
  | coe r => exact EReal.coe_nonneg.mpr (Real.exp_pos r).le

/-- The gate as a product with the logistic function. -/
theorem mul_logistic (x : EReal) : x * Ideal.logistic x = gate x x := by
  refine Ideal.mul_one_div fun e => ?_
  have h1 : (1 : EReal) ≤ 1 + Ideal.exp (-x) := le_add_of_nonneg_right (exp_nonneg _)
  rw [e] at h1
  exact absurd h1 (by simp)

/-- The pre-activation: row `r` of `X` times column `k` of `U`. -/
def pre {M N : ℕ} (X : (⟨2, ![M, 512]⟩ : Shape).Idx → EReal) (U : (⟨2, ![512, N]⟩ : Shape).Idx → EReal) (r : Fin M) (k : Fin N) : EReal :=
  ∑ t : Fin 512, X (ix2 r t) * U (ix2 t k)

/-- The layer's result with the gate's argument passed through `f`. -/
def layer (f : EReal → EReal) {M N : ℕ} (X : (⟨2, ![M, 512]⟩ : Shape).Idx → EReal) (U : (⟨2, ![512, N]⟩ : Shape).Idx → EReal)
    (V : (⟨2, ![N, 512]⟩ : Shape).Idx → EReal) (r : Fin M) (n : Fin 512) : EReal :=
  ∑ k : Fin N, gate (pre X U r k) (f (pre X U r k)) * V (ix2 k n)

/-! ## A device's part -/

variable (I : Ins Ideal) (c : Dev nD)

theorem pay3_id (u : Vec Ideal S512x2048 .bf16) : k0_pay3 u = u := by
  unfold k0_pay3; exact shapeCast_self _ _
theorem pay4_id (v : Vec Ideal S2048x512 .bf16) : k0_pay4 v = v := by
  unfold k0_pay4; exact shapeCast_self _ _

theorem hid_apply (h : Vec Ideal S256x512 .bf16) (a : Fin 256) (k : Fin 2048) : hid I c h (ix2 a k) = pre h (I.u c) a k := by
  have e := Ideal.matmul_plain_apply (M := 256) (K := 512) (N := 2048) (φ₁ := .bf16) none h (k0_pay3 (I.u c)) (constant S256x2048 .f32 0x00000000#32) a k
  rw [constant_apply, Ideal.ofBits_zero_f32, zero_add, pay3_id] at e
  unfold hid
  rw [pay3_id]
  exact e

theorem mlp_apply (h : Vec Ideal S256x512 .bf16) (a : Fin 256) (n : Fin 512) : mlp I c h (ix2 a n) = layer id h (I.u c) (I.v c) a n := by
  have e := Ideal.matmul_plain_apply (M := 256) (K := 2048) (N := 512) (φ₁ := .bf16) none
    (truncf .bf16 (mulf (hid I c h) (logistic (hid I c h))) bitsLt_bf16_f32) (k0_pay4 (I.v c)) (constant S256x512 .f32 0x00000000#32) a n
  rw [constant_apply, Ideal.ofBits_zero_f32, zero_add, pay4_id] at e
  unfold mlp
  rw [pay4_id]
  refine e.trans (Finset.sum_congr rfl fun k _ => ?_)
  rw [truncf_apply, mulf_apply]
  show hid I c h (ix2 a k) * Ideal.logistic (hid I c h (ix2 a k)) * _ = _
  rw [mul_logistic, hid_apply]
  rfl

/-- Half `j` of the result, over the four devices. -/
theorem out_apply (j : Fin 2) (a : Fin 256) (n : Fin 512) :
    out I c j (ix2 a n) = ∑ d : Dev nD, layer id (half I c j) (I.u d) (I.v d) a n := by
  have e1 : rgt (lft c) = c := by revert c; decide
  have e2 : lft (rgt c) = c := by revert c; decide
  have e3 : lft (lft (opp c)) = c := by revert c; decide
  unfold out part
  rw [e1, e2, e3]
  simp only [addf_apply, extf_apply, truncf_apply, mlp_apply]
  generalize hg : (fun d : Dev nD => layer id (half I c j) (I.u d) (I.v d) a n) = g
  have hg' (d : Dev nD) : layer id (half I c j) (I.u d) (I.v d) a n = g d := congrFun hg d
  simp only [hg']
  have hs : ∑ d : Dev nD, g d = g 0 + g 1 + g 2 + g 3 := Fin.sum_univ_four g
  rw [hs]
  have hc : c = 0 ∨ c = 1 ∨ c = 2 ∨ c = 3 := by clear hg hg' hs e1 e2 e3; revert c; decide
  rcases hc with rfl | rfl | rfl | rfl
  · show g 0 + g 3 + g 1 + g 2 = _
    ac_rfl
  · show g 1 + g 0 + g 2 + g 3 = _
    ac_rfl
  · show g 2 + g 1 + g 3 + g 0 = _
    ac_rfl
  · show g 3 + g 2 + g 0 + g 1 = _
    ac_rfl

/-! ## The whole layer from the devices' parts -/

/-- A sum over the hidden columns, device by device. -/
theorem sum_columns (f : Fin 8192 → EReal) :
    ∑ k : Fin 8192, f k = ∑ d : Dev nD, ∑ k : Fin 2048, f ⟨d.val * 2048 + k.val, by have := d.isLt; have := k.isLt; have : nD = 4 := rfl; omega⟩ := by
  rw [← Fintype.sum_prod_type' (f := fun (d : Dev nD) (k : Fin 2048) => f ⟨d.val * 2048 + k.val, _⟩)]
  refine (Fintype.sum_equiv (finProdFinEquiv (m := 4) (n := 2048)) _ f fun p => congrArg f (Fin.ext ?_)).symm
  show p.1.val * 2048 + p.2.val = p.2.val + 2048 * p.1.val
  omega

variable (X : (⟨2, ![2048, 512]⟩ : Shape).Idx → EReal) (U : (⟨2, ![512, 8192]⟩ : Shape).Idx → EReal) (V : (⟨2, ![8192, 512]⟩ : Shape).Idx → EReal)

/-- The layer as one array. -/
def whole (f : EReal → EReal) : (⟨2, ![2048, 512]⟩ : Shape).Idx → EReal := fun i => layer f X U V (i 0) (i 1)

/-- The devices' blocks of the three arrays. -/
def cut : Ins Ideal where
  x c := Layout.block ⟨2, ![512, 512]⟩ ⟨2, ![2048, 512]⟩ 0 4 c X
  u c := Layout.block ⟨2, ![512, 2048]⟩ ⟨2, ![512, 8192]⟩ 1 4 c U
  v c := Layout.block ⟨2, ![2048, 512]⟩ ⟨2, ![8192, 512]⟩ 0 4 c V

/-- Row `a` of half `j` on device `c`, in the whole array. -/
def row (j : Fin 2) (a : Fin 256) : Fin 2048 :=
  ⟨c.val * 512 + (256 * j.val + a.val), by have := c.isLt; have := j.isLt; have := a.isLt; have : nD = 4 := rfl; omega⟩
/-- Column `k` on device `d`, in the whole array. -/
def col (d : Dev nD) (k : Fin 2048) : Fin 8192 :=
  ⟨d.val * 2048 + k.val, by have := d.isLt; have := k.isLt; have : nD = 4 := rfl; omega⟩

theorem cut_half (j : Fin 2) (a : Fin 256) (t : Fin 512) : half (cut X U V) c j (ix2 a t) = X (ix2 (row c j a) t) := by
  refine congrArg X (funext fun b => Fin.ext ?_)
  match b with
  | ⟨0, _⟩ => show c.val * 512 + (256 * j.val + 1 * a.val) = c.val * 512 + (256 * j.val + a.val); omega
  | ⟨1, _⟩ => show 0 + 1 * t.val = t.val; omega
theorem cut_u (d : Dev nD) (t : Fin 512) (k : Fin 2048) : (cut X U V).u d (ix2 t k) = U (ix2 t (col d k)) := by
  refine congrArg U (funext fun b => Fin.ext ?_)
  match b with
  | ⟨0, _⟩ => rfl
  | ⟨1, _⟩ => rfl
theorem cut_v (d : Dev nD) (k : Fin 2048) (n : Fin 512) : (cut X U V).v d (ix2 k n) = V (ix2 (col d k) n) := by
  refine congrArg V (funext fun b => Fin.ext ?_)
  match b with
  | ⟨0, _⟩ => rfl
  | ⟨1, _⟩ => rfl

theorem cut_pre (d : Dev nD) (j : Fin 2) (a : Fin 256) (k : Fin 2048) :
    pre (half (cut X U V) c j) ((cut X U V).u d) a k = pre X U (row c j a) (col d k) :=
  Finset.sum_congr rfl fun t _ => by rw [cut_half, cut_u]

theorem cut_out (j : Fin 2) (a : Fin 256) (n : Fin 512) : out (cut X U V) c j (ix2 a n) = layer id X U V (row c j a) n := by
  rw [out_apply]
  unfold layer
  rw [sum_columns]
  refine Finset.sum_congr rfl fun d _ => Finset.sum_congr rfl fun k _ => ?_
  rw [cut_pre, cut_v]
  rfl

/-- The row, from its number on the device. -/
theorem row_val (a : ℕ) (h : a < 512) :
    (row c (if a < 256 then 0 else 1) ⟨a % 256, Nat.mod_lt _ (by decide)⟩).val = c.val * 512 + a := by
  unfold row
  by_cases h' : a < 256
  · rw [if_pos h']
    show c.val * 512 + (256 * 0 + a % 256) = _
    omega
  · rw [if_neg h']
    show c.val * 512 + (256 * 1 + a % 256) = _
    omega

theorem tiles4 : Layout.Tiles ⟨2, ![512, 512]⟩ ⟨2, ![2048, 512]⟩ 0 4 := by decide

/-- A device's result is its block of the layer's. -/
theorem res_cut : res c (cut X U V) = Layout.block ⟨2, ![512, 512]⟩ ⟨2, ![2048, 512]⟩ 0 4 c (whole X U V id) := by
  funext i
  refine (cut_out c X U V (if (i 0).val < 256 then 0 else 1) ⟨(i 0).val % 256, Nat.mod_lt _ (by decide)⟩ (i 1)).trans ?_
  show layer id X U V _ (i 1) = layer id X U V (tiles4.idx c i 0) (i 1)
  refine congrArg (fun r => layer id X U V r (i 1)) (Fin.ext ?_)
  rw [Layout.Tiles.idx_val]
  exact row_val c (i 0).val (i 0).isLt

end Cert.RingMlp

end
-- ==== Proof.Small.lean ====
/-
  THE BOUND that makes the reference's clip the identity: if the squares of a row of `x` sum to at most 1800 and those of a
  column of `W1` to at most 2, their product is at most 60 in absolute value (Cauchy and Schwarz), over the extended reals,
  where the two sums being bounded also says that every term is a real number.
-/
module

public import proofs.«01_k».proof.Proof.Value
public import Mathlib.Algebra.Order.BigOperators.Ring.Finset
public import Mathlib.Data.EReal.Operations

@[expose] public section

noncomputable section

namespace Cert.RingMlp

open Idealize.ShloMosaic Idealize.ShloMosaic.ValueIdx
open scoped BigOperators

/-- A square is not negative. -/
theorem sq_nonneg' (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- The sum of real numbers, as an extended real. -/
theorem coe_sum' {n : ℕ} (f : Fin n → ℝ) : ((∑ t, f t : ℝ) : EReal) = ∑ t, (f t : EReal) := by
  induction (Finset.univ : Finset (Fin n)) using Finset.cons_induction with
  | empty => simp
  | cons a s ha ih => rw [Finset.sum_cons, Finset.sum_cons, EReal.coe_add, ih]

/-- A bounded sum of squares is one of real numbers. -/
theorem real_of_sq {n : ℕ} (a : Fin n → EReal) (b : ℝ) (h : ∑ t, a t * a t ≤ (b : EReal)) : ∃ f : Fin n → ℝ, a = fun t => (f t : EReal) := by
  have one (t : Fin n) : a t * a t < ⊤ :=
    ((Finset.single_le_sum (fun i _ => sq_nonneg' (a i)) (Finset.mem_univ t)).trans h).trans_lt (EReal.coe_lt_top b)
  have each (t : Fin n) : ∃ r : ℝ, a t = (r : EReal) := by
    have := one t
    generalize a t = y at this
    induction y using EReal.rec with
    | bot => rw [EReal.bot_mul_bot] at this; exact absurd this (lt_irrefl _)
    | top => rw [EReal.top_mul_top] at this; exact absurd this (lt_irrefl _)
    | coe r => exact ⟨r, rfl⟩
  choose f hf using each
  exact ⟨f, funext hf⟩

/-- The bound. -/
theorem dot_le {n : ℕ} (a b : Fin n → EReal) (ha : ∑ t, a t * a t ≤ ((1800 : ℝ) : EReal)) (hb : ∑ t, b t * b t ≤ ((2 : ℝ) : EReal)) :
    ((-60 : ℝ) : EReal) ≤ ∑ t, a t * b t ∧ ∑ t, a t * b t ≤ ((60 : ℝ) : EReal) := by
  obtain ⟨f, rfl⟩ := real_of_sq a _ ha
  obtain ⟨g, rfl⟩ := real_of_sq b _ hb
  simp only [← EReal.coe_mul, ← coe_sum', EReal.coe_le_coe_iff] at *
  have cs := Finset.sum_mul_sq_le_sq_mul_sq Finset.univ f g
  have ea : ∑ t, f t ^ 2 = ∑ t, f t * f t := Finset.sum_congr rfl fun t _ => pow_two _
  have eb : ∑ t, g t ^ 2 = ∑ t, g t * g t := Finset.sum_congr rfl fun t _ => pow_two _
  rw [ea, eb] at cs
  have hp : (∑ t, f t * f t) * (∑ t, g t * g t) ≤ 1800 * 2 :=
    mul_le_mul ha hb (Finset.sum_nonneg fun t _ => mul_self_nonneg _) (by norm_num)
  have := abs_le_of_sq_le_sq' (show (∑ t, f t * g t) ^ 2 ≤ (60 : ℝ) ^ 2 by linarith) (by norm_num)
  exact this

/-- The reference's clip. -/
def clip (y : EReal) : EReal := min ((60 : ℝ) : EReal) (max ((-60 : ℝ) : EReal) y)

theorem clip_id {y : EReal} (h : ((-60 : ℝ) : EReal) ≤ y ∧ y ≤ ((60 : ℝ) : EReal)) : clip y = y := by
  unfold clip; rw [max_eq_right h.1, min_eq_right h.2]

/-- Where every pre-activation is within the clip's bounds, the layer with the clip is the one without. -/
theorem layer_clip {M N : ℕ} (X : (⟨2, ![M, 512]⟩ : Shape).Idx → EReal) (U : (⟨2, ![512, N]⟩ : Shape).Idx → EReal)
    (V : (⟨2, ![N, 512]⟩ : Shape).Idx → EReal) (r : Fin M) (n : Fin 512)
    (hX : ∑ t : Fin 512, X (ix2 r t) * X (ix2 r t) ≤ ((1800 : ℝ) : EReal))
    (hU : ∀ k : Fin N, ∑ t : Fin 512, U (ix2 t k) * U (ix2 t k) ≤ ((2 : ℝ) : EReal)) : layer clip X U V r n = layer id X U V r n := by
  unfold layer
  refine Finset.sum_congr rfl fun k _ => ?_
  have hb := dot_le (fun t => X (ix2 r t)) (fun t => U (ix2 t k)) hX (hU k)
  have e : clip (pre X U r k) = pre X U r k := clip_id hb
  rw [e, id]

theorem whole_clip (X : (⟨2, ![2048, 512]⟩ : Shape).Idx → EReal) (U : (⟨2, ![512, 8192]⟩ : Shape).Idx → EReal)
    (V : (⟨2, ![8192, 512]⟩ : Shape).Idx → EReal)
    (hX : ∀ r : Fin 2048, ∑ t : Fin 512, X (ix2 r t) * X (ix2 r t) ≤ ((1800 : ℝ) : EReal))
    (hU : ∀ k : Fin 8192, ∑ t : Fin 512, U (ix2 t k) * U (ix2 t k) ≤ ((2 : ℝ) : EReal)) : whole X U V clip = whole X U V id :=
  funext fun i => layer_clip X U V (i 0) (i 1) (hX (i 0)) hU

end Cert.RingMlp

end
-- ==== Proof.References.lean ====
/-
  WHAT THE TWO REFERENCES COMPUTE, and what the precondition says: the run of each read as the layer of the specification, and
  the precondition's two sums, device by device, as sums over the rows of `x` and the columns of `W1`.
-/
module

public import proofs.«01_k».proof.Defs
public import proofs.«01_k».proof.Proof.Gen.ReferenceIdeal.Run
public import proofs.«01_k».proof.Proof.Gen.PlainReferenceIdeal.Run
public import proofs.«01_k».proof.Proof.Gen.Pre_small_KernelIdeal
public import Idealize.ShloMosaic.Lib.ReduceAll
public import proofs.«01_k».proof.Proof.Small

@[expose] public section

noncomputable section

namespace Cert.RingMlp

open Idealize.ShloMosaic Idealize.ShloMosaic.ValueIdx
open scoped BigOperators

attribute [local instance] Cert.KernelIdeal.Gen.facts Cert.ReferenceIdeal.Gen.facts Cert.PlainReferenceIdeal.Gen.facts Cert.Pre_small_KernelIdeal.Gen.facts

variable (X : (⟨2, ![2048, 512]⟩ : Shape).Idx → EReal) (U : (⟨2, ![512, 8192]⟩ : Shape).Idx → EReal) (V : (⟨2, ![8192, 512]⟩ : Shape).Idx → EReal)

/-! ## The references -/

theorem host_pre (hb : FTy.bits .bf16 < FTy.bits .f32) (x : FVec Ideal ⟨2, ![2048, 512]⟩ .bf16) (u : FVec Ideal ⟨2, ![512, 8192]⟩ .bf16)
    (r : Fin 2048) (k : Fin 8192) :
    Host.dotGeneral (F := Ideal) (DotDims.plain 2048 512 8192) none (extf .f32 x hb) (extf .f32 u hb) (ix2 r k) = pre x u r k :=
  StackMember.dotGeneral_plain_apply none (extf .f32 x hb) (extf .f32 u hb) r k

/-- The second product, of a hidden layer that is the gated pre-activation. -/
theorem host_layer (f : EReal → EReal) (hb : FTy.bits .bf16 < FTy.bits .f32) (v : FVec Ideal ⟨2, ![8192, 512]⟩ .bf16)
    (A : FVec Ideal ⟨2, ![2048, 8192]⟩ .f32) (hA : ∀ r k, A (ix2 r k) = gate (pre X U r k) (f (pre X U r k))) :
    Host.dotGeneral (F := Ideal) (DotDims.plain 2048 8192 512) none A (extf .f32 v hb) = whole X U v f := by
  funext i
  have at' (r : Fin 2048) (n : Fin 512) :
      Host.dotGeneral (F := Ideal) (DotDims.plain 2048 8192 512) none A (extf .f32 v hb) (ix2 r n) = layer f X U v r n := by
    refine (StackMember.dotGeneral_plain_apply none A (extf .f32 v hb) r n).trans (Finset.sum_congr rfl fun k _ => ?_)
    rw [hA, extf_apply]
  have hi : (ix2 (i 0) (i 1) : (⟨2, ![2048, 512]⟩ : Shape).Idx) = i := by
    funext b
    match b with
    | ⟨0, _⟩ => rfl
    | ⟨1, _⟩ => rfl
  have e := at' (i 0) (i 1)
  rw [hi] at e
  exact e

/-- The quotient both references take, of the gate's argument as it is: -/
theorem host_gate (s : Shape) (hbc : (⟨0, ![]⟩ : Shape).BroadcastsInDim s ![]) (H G : FVec Ideal s .f32) (i : s.Idx) :
    Host.divf H (addf (broadcastInDim s ![] hbc (constant (F := Ideal) ⟨0, ![]⟩ .f32 0x3F800000#32)) (Host.exp (Host.negf G))) i = gate (H i) (G i) := by
  rw [hostDivf_apply, addf_apply, broadcastInDim_scalar_apply, constant_apply, Ideal.ofBits_one_f32]
  rfl

/-- and clipped. -/
theorem host_clip (s : Shape) (hbc : (⟨0, ![]⟩ : Shape).BroadcastsInDim s ![]) (H : FVec Ideal s .f32) (i : s.Idx) :
    minimumf (broadcastInDim s ![] hbc (sitofp (F := Ideal) .f32 (constantI ⟨0, ![]⟩ 32 60#32)))
      (maximumf (broadcastInDim s ![] hbc (sitofp (F := Ideal) .f32 (constantI ⟨0, ![]⟩ 32 4294967236#32))) H) i = clip (H i) := by
  rw [minimumf_apply, maximumf_apply, broadcastInDim_scalar_apply, broadcastInDim_scalar_apply]
  show min (((60#32 : BitVec 32).toInt : ℝ) : EReal) (max (((4294967236#32 : BitVec 32).toInt : ℝ) : EReal) (H i)) = _
  rw [show (60#32 : BitVec 32).toInt = 60 by decide, show (4294967236#32 : BitVec 32).toInt = -60 by decide]
  unfold clip
  norm_num

section
open Cert.PlainReferenceIdeal

theorem plain_value (x : FVec Ideal S2048x512 .bf16) (u : FVec Ideal S512x8192 .bf16) (v : FVec Ideal S8192x512 .bf16) :
    Host.dotGeneral (F := Ideal) dot_S2048x8192_S8192x512_S2048x512_1_0_0_1_n_n none (Host.divf (Host.dotGeneral dot_S2048x512_S512x8192_S2048x8192_1_0_0_1_n_n none (extf .f32 x Gen.bitsLt_bf16_f32) (extf .f32 u Gen.bitsLt_bf16_f32)) (addf (broadcastInDim S2048x8192 ![] Gen.bcast_S_S2048x8192 (constant S_ .f32 0x3F800000#32)) (Host.exp (Host.negf (Host.dotGeneral dot_S2048x512_S512x8192_S2048x8192_1_0_0_1_n_n none (extf .f32 x Gen.bitsLt_bf16_f32) (extf .f32 u Gen.bitsLt_bf16_f32)))))) (extf .f32 v Gen.bitsLt_bf16_f32)
      = whole x u v id := by
  refine host_layer x u id Gen.bitsLt_bf16_f32 v _ fun r k => ?_
  rw [host_gate]
  exact congrArg₂ gate (host_pre _ x u r k) (host_pre _ x u r k)
end

section
open Cert.ReferenceIdeal

theorem clip_value (x : FVec Ideal S2048x512 .bf16) (u : FVec Ideal S512x8192 .bf16) (v : FVec Ideal S8192x512 .bf16) :
    Host.dotGeneral (F := Ideal) dot_S2048x8192_S8192x512_S2048x512_1_0_0_1_n_n none (Host.divf (Host.dotGeneral dot_S2048x512_S512x8192_S2048x8192_1_0_0_1_n_n none (extf .f32 x Gen.bitsLt_bf16_f32) (extf .f32 u Gen.bitsLt_bf16_f32)) (addf (broadcastInDim S2048x8192 ![] Gen.bcast_S_S2048x8192 (constant S_ .f32 0x3F800000#32)) (Host.exp (Host.negf (minimumf (broadcastInDim S2048x8192 ![] Gen.bcast_S_S2048x8192 (sitofp .f32 (constantI S_ 32 60#32))) (maximumf (broadcastInDim S2048x8192 ![] Gen.bcast_S_S2048x8192 (sitofp .f32 (constantI S_ 32 4294967236#32))) (Host.dotGeneral dot_S2048x512_S512x8192_S2048x8192_1_0_0_1_n_n none (extf .f32 x Gen.bitsLt_bf16_f32) (extf .f32 u Gen.bitsLt_bf16_f32)))))))) (extf .f32 v Gen.bitsLt_bf16_f32)
      = whole x u v clip := by
  refine host_layer x u clip Gen.bitsLt_bf16_f32 v _ fun r k => ?_
  rw [host_gate, host_clip]
  exact congrArg₂ (fun y z => gate y (clip z)) (host_pre _ x u r k) (host_pre _ x u r k)
end

/-! ## The precondition -/

section
open Cert.Pre_small_KernelIdeal

/-- A comparison that came out true. -/
theorem le_of_cmp {a b : EReal} (h : Ideal.cmp .ole a b = 1#1) : a ≤ b := by
  by_contra hn
  rw [show Ideal.cmp .ole a b = BitVec.ofBool (decide (a ≤ b)) from rfl, decide_eq_false hn] at h
  exact absurd h (by decide)

theorem ofBits_1800 : Ideal.ofBits .f32 0x44E10000#32 = ((1800 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num

theorem red_x : S512x512.Reduces [1] S512 := by decide
theorem red_u : S512x2048.Reduces [0] S2048 := by decide
theorem lift_x (r t : Fin 512) : red_x.lift (ix1 r) t = ix2 r t := by
  funext b
  match b with
  | ⟨0, _⟩ => exact Fin.ext rfl
  | ⟨1, _⟩ => exact Fin.ext rfl
theorem lift_u (k : Fin 2048) (t : Fin 512) : red_u.lift (ix1 k) t = ix2 t k := by
  funext b
  match b with
  | ⟨0, _⟩ => exact Fin.ext rfl
  | ⟨1, _⟩ => exact Fin.ext rfl

/-- The row and column sums of a device on which the precondition holds. -/
theorem small_sums (x : FVec Ideal S512x512 .bf16) (u : FVec Ideal S512x2048 .bf16) (v : FVec Ideal S2048x512 .bf16)
    (h : fn (F := Ideal) x u v = fun _ => 1#1) :
    (∀ r : Fin 512, ∑ t : Fin 512, x (ix2 r t) * x (ix2 r t) ≤ ((1800 : ℝ) : EReal))
      ∧ ∀ k : Fin 2048, ∑ t : Fin 512, u (ix2 t k) * u (ix2 t k) ≤ ((2 : ℝ) : EReal) := by
  have h0 := congrFun h ix0
  unfold fn at h0
  have h1 := IntOp.andi_eq_one.mp h0
  haveI : Subsingleton S_.Idx := ⟨fun a b => funext fun i => i.elim0⟩
  constructor
  · intro r
    have e := Host.reduce_andi_all _ _ _ _ _ h1.1 (ix1 r)
    have e' := le_of_cmp e
    beta_reduce at e'
    rw [hostReduceAdd_apply, Ideal.hostReduceAdd_single Gen.reducesTo_S512x512_S512_d1 red_x, broadcastInDim_scalar_apply, constant_apply,
      constant_apply, Ideal.ofBits_zero_f32, zero_add, ofBits_1800] at e'
    refine le_trans (le_of_eq (Finset.sum_congr rfl fun t _ => ?_)) e'
    rw [mulf_apply, extf_apply, lift_x]
  · intro k
    have e := Host.reduce_andi_all _ _ _ _ _ h1.2 (ix1 k)
    have e' := le_of_cmp e
    beta_reduce at e'
    rw [hostReduceAdd_apply, Ideal.hostReduceAdd_single Gen.reducesTo_S512x2048_S2048_d0 red_u, broadcastInDim_scalar_apply, constant_apply,
      constant_apply, Ideal.ofBits_zero_f32, zero_add, ofBits_2] at e'
    refine le_trans (le_of_eq (Finset.sum_congr rfl fun t _ => ?_)) e'
    rw [mulf_apply, extf_apply, lift_u]
end

/-- Every row of the whole array is a row of some device's block, every column a column. -/
theorem cut_x (c : Dev Cert.KernelIdeal.nD) (r t : Fin 512) :
    (cut X U V).x c (ix2 r t) = X (ix2 ⟨c.val * 512 + r.val, by have := c.isLt; have := r.isLt; have : Cert.KernelIdeal.nD = 4 := rfl; omega⟩ t) := by
  refine congrArg X (funext fun b => Fin.ext ?_)
  match b with
  | ⟨0, _⟩ => rfl
  | ⟨1, _⟩ => rfl

/-- Under the precondition on every device's blocks the clip changes nothing. -/
theorem clip_of_small
    (h : ∀ c : Dev Cert.KernelIdeal.nD, Cert.Pre_small_KernelIdeal.fn (F := Ideal) ((cut X U V).x c) ((cut X U V).u c) ((cut X U V).v c) = fun _ => 1#1) :
    whole X U V clip = whole X U V id := by
  refine whole_clip X U V (fun r => ?_) (fun k => ?_)
  · have e := (small_sums _ _ _ (h ⟨r.val / 512, by have := r.isLt; have : Cert.KernelIdeal.nD = 4 := rfl; omega⟩)).1 ⟨r.val % 512, Nat.mod_lt _ (by decide)⟩
    simp only [cut_x, Nat.div_add_mod'] at e
    exact e
  · have e := (small_sums _ _ _ (h ⟨k.val / 2048, by have := k.isLt; have : Cert.KernelIdeal.nD = 4 := rfl; omega⟩)).2 ⟨k.val % 2048, Nat.mod_lt _ (by decide)⟩
    simp only [cut_u, col, Nat.div_add_mod'] at e
    exact e

end Cert.RingMlp

end
-- ==== Proof.Claims.lean ====
/-
  THE TWO VALUE CLAIMS: from memories where each device holds its blocks of the reference's arrays, each device's result ends as
  its block of the reference's result. Without the clip always; with it where the precondition holds.
-/
module

public import proofs.«01_k».proof.Proof.References
public import proofs.«01_k».proof.Proof.Gen.Kernel

@[expose] public section

noncomputable section

namespace Cert.Proof

open Idealize.ShloMosaic Idealize.SL.Sem Cert.RingMlp

attribute [local instance] Cert.KernelIdeal.Gen.facts Cert.ReferenceIdeal.Gen.facts Cert.PlainReferenceIdeal.Gen.facts
  Cert.Pre_small_KernelIdeal.Gen.facts

variable (m : (ℓ : Loc Cert.KernelIdeal.nD Cert.KernelIdeal.τ Cert.KernelIdeal.sig) → Buf (Elt Ideal) ℓ)
  (X : (⟨2, ![2048, 512]⟩ : Shape).Idx → EReal) (U : (⟨2, ![512, 8192]⟩ : Shape).Idx → EReal) (V : (⟨2, ![8192, 512]⟩ : Shape).Idx → EReal)

/-- Each device's argument buffers hold its blocks of three whole arrays. -/
def Holds : Prop := ∀ c : Dev Cert.KernelIdeal.nD,
  m ((c.tc : Thread Cert.KernelIdeal.nD Cert.KernelIdeal.τ).loc Cert.KernelIdeal.main_arg0) = Layout.block ⟨2, ![512, 512]⟩ ⟨2, ![2048, 512]⟩ 0 4 c X
  ∧ m ((c.tc : Thread Cert.KernelIdeal.nD Cert.KernelIdeal.τ).loc Cert.KernelIdeal.main_arg1) = Layout.block ⟨2, ![512, 2048]⟩ ⟨2, ![512, 8192]⟩ 1 4 c U
  ∧ m ((c.tc : Thread Cert.KernelIdeal.nD Cert.KernelIdeal.τ).loc Cert.KernelIdeal.main_arg2) = Layout.block ⟨2, ![2048, 512]⟩ ⟨2, ![8192, 512]⟩ 0 4 c V

variable {m X U V}

theorem blocks_of_holds (h : Holds m X U V) : blocks m = cut X U V := by
  have hx : (blocks m).x = (cut X U V).x := funext fun c => (h c).1
  have hu : (blocks m).u = (cut X U V).u := funext fun c => (h c).2.1
  have hv : (blocks m).v = (cut X U V).v := funext fun c => (h c).2.2
  show Ins.mk (blocks m).x (blocks m).u (blocks m).v = _
  rw [hx, hu, hv]

/-- The kernel's run on such memories. -/
theorem run_kernel (h : Holds m X U V) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Layout.block ⟨2, ![512, 512]⟩ ⟨2, ![2048, 512]⟩ 0 4 c (whole X U V id)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ hr c => by
    have e := hr.1 c
    rw [blocks_of_holds h, res_cut] at e
    exact e) (run_read (F := Ideal) m g)

/-- Against the reference without the clip, from any memory. -/
theorem plain : Cert.algebraic_KernelIdeal_PlainReferenceIdeal := fun m g m' g' _ hagree =>
  ⟨_, run_kernel (m := m) hagree g,
    (θ_run Cert.PlainReferenceIdeal.defs _ _).mono (fun _ h => ⟨(h 0).1.trans (plain_value _ _ _), (h 0).2⟩)
      (Cert.PlainReferenceIdeal.Value.run (F := Ideal) m' g')⟩

/-- Against the reference, from a memory where the precondition holds. -/
theorem clipped : Cert.algebraic_KernelIdeal_ReferenceIdeal_pre_small_KernelIdeal := fun m g m' g' hpre hagree =>
  ⟨_, run_kernel (m := m) hagree g,
    (θ_run Cert.ReferenceIdeal.defs _ _).mono (fun _ h => ⟨((h 0).1.trans (clip_value _ _ _)).trans (clip_of_small _ _ _ fun c => by
        have e := hpre c
        rw [(hagree c).1, (hagree c).2.1, (hagree c).2.2] at e
        exact e), (h 0).2⟩)
      (Cert.ReferenceIdeal.Value.run (F := Ideal) m' g')⟩

end Cert.Proof

end
-- ==== Proof.lean ====
/-
  THE CLAIMS, put together: the frames of the kernel from its run, those of the references from theirs, and the two value
  claims.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.PlainReferenceIdeal
public import proofs.«01_k».proof.Proof.Gen.Pre_small_KernelIdeal
public import proofs.«01_k».proof.Proof.Gen.Pre_small_ReferenceIdeal
public import proofs.«01_k».proof.Proof.Gen.ReferenceIdeal.Run
public import proofs.«01_k».proof.Proof.Gen.PlainReferenceIdeal.Run
public import proofs.«01_k».proof.Proof.Frames
public import proofs.«01_k».proof.Proof.Claims

@[expose] public section

noncomputable section

namespace Cert.Proof

/-- Everything claimed: the frames, and the result against the reference with and without its clip. -/
theorem claim : Cert.Claim := ⟨Cert.Kernel.Gen.facts, Cert.KernelIdeal.Gen.facts, Cert.ReferenceIdeal.Gen.facts,
  Cert.PlainReferenceIdeal.Gen.facts, Cert.Pre_small_KernelIdeal.Gen.facts, Cert.Pre_small_ReferenceIdeal.Gen.facts,
  frame_kernel, frame_ideal, frame_ideal_small, frame_reference, frame_reference_small, frame_plain, trivial, clipped, plain⟩

end Cert.Proof

end
